-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4_0)) (v1 : (c : Dev Cert.KvIdeal.nD) → Buf (Elt Ideal) ((c.tc : Thread Cert.KvIdeal.nD Cert.KvIdeal.τ).loc Cert.KvIdeal.main_v4_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4_0) = v0 c
          ∧ r.2.mem ((c.tc : Thread Cert.KvIdeal.nD Cert.KvIdeal.τ).loc Cert.KvIdeal.main_v4_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_v5) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Mixer_MixerIdeal : Prop :=
  True

def Claim : Prop :=
  ∃ (hAttn : Cert.Attn.Facts) (hAttnIdeal : Cert.AttnIdeal.Facts) (hAttnRefIdeal : Cert.AttnRefIdeal.Facts) (hKv : Cert.Kv.Facts) (hKvIdeal : Cert.KvIdeal.Facts) (hKvRefIdeal : Cert.KvRefIdeal.Facts) (hMixer : Cert.Mixer.Facts) (hMixerIdeal : Cert.MixerIdeal.Facts),
    quiescent_Attn (hAttn := hAttn)
    ∧ quiescent_AttnIdeal (hAttnIdeal := hAttnIdeal)
    ∧ quiescent_AttnRefIdeal (hAttnRefIdeal := hAttnRefIdeal)
    ∧ quiescent_Kv (hKv := hKv)
    ∧ quiescent_KvIdeal (hKvIdeal := hKvIdeal)
    ∧ quiescent_KvRefIdeal (hKvRefIdeal := hKvRefIdeal)
    ∧ quiescent_Mixer (hMixer := hMixer)
    ∧ quiescent_MixerIdeal (hMixerIdeal := hMixerIdeal)
    ∧ preserves_Attn_AttnIdeal
    ∧ algebraic_AttnIdeal_AttnRefIdeal (hAttnIdeal := hAttnIdeal) (hAttnRefIdeal := hAttnRefIdeal)
    ∧ preserves_Kv_KvIdeal
    ∧ algebraic_KvIdeal_KvRefIdeal (hKvIdeal := hKvIdeal) (hKvRefIdeal := hKvRefIdeal)
    ∧ preserves_Mixer_MixerIdeal
-- ==== Attn.lean ====
abbrev S32x2048x1024 : Shape := ⟨3, ![32, 2048, 1024]⟩
abbrev S32x256x1024 : Shape := ⟨3, ![32, 256, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S512x2816 : Shape := ⟨2, ![512, 2816]⟩

abbrev nBuf : Space → Nat
  | .hbm => 27
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x256x1024, .bf16⟩
  | .hbm, ⟨2, _⟩ => ⟨S32x256x1024, .bf16⟩
  | .hbm, ⟨3, _⟩ => ⟨S1x1024x1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .f32⟩
  | .hbm, ⟨24, _⟩ => ⟨S2816x1024, .bf16⟩
  | .hbm, ⟨25, _⟩ => ⟨S1x1024, .f32⟩
  | .hbm, ⟨26, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnRefIdeal.lean ====
abbrev S32x2048x1024 : Shape := ⟨3, ![32, 2048, 1024]⟩
abbrev S32x256x1024 : Shape := ⟨3, ![32, 256, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x1024 : Shape := ⟨2, ![1024, 1024]⟩
abbrev S32x2048x4x256 : Shape := ⟨4, ![32, 2048, 4, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩
abbrev S1024x2816 : Shape := ⟨2, ![1024, 2816]⟩
abbrev S32x2048x2816 : Shape := ⟨3, ![32, 2048, 2816]⟩
abbrev S2816x1024 : Shape := ⟨2, ![2816, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x256x1024, .bf16⟩
  | .hbm, ⟨2, _⟩ => ⟨S32x256x1024, .bf16⟩
  | .hbm, ⟨3, _⟩ => ⟨S1x1024x1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S1024x1024, .f32⟩
  | .hbm, ⟨29, _⟩ => ⟨S32x2048x1024, .f32⟩
  | .hbm, ⟨30, _⟩ => ⟨S32x2048x4x256, .f32⟩
  | .hbm, ⟨31, _⟩ => ⟨S32x256x1024, .f32⟩
  | .hbm, ⟨32, _⟩ => ⟨S32x256x4x256, .f32⟩
  | .hbm, ⟨33, _⟩ => ⟨S32x256x1024, .f32⟩
  | .hbm, ⟨34, _⟩ => ⟨S32x256x4x256, .f32⟩
  | .hbm, ⟨35, _⟩ => ⟨S32x4x2048x256, .f32⟩
  | .hbm, ⟨36, _⟩ => ⟨S_, .f32⟩
  | .hbm, ⟨37, _⟩ => ⟨S32x4x2048x256, .f32⟩
  | .hbm, ⟨38, _⟩ => ⟨S32x4x2048x256, .f32⟩
  | .hbm, ⟨39, _⟩ => ⟨S_, .f32⟩
  | .hbm, ⟨40, _⟩ => ⟨S32x4x2048, .f32⟩
  | .hbm, ⟨41, _⟩ => ⟨S_, .f32⟩
  | .hbm, ⟨42, _⟩ => ⟨S32x4x2048, .f32⟩
  | .hbm, ⟨43, _⟩ => ⟨S32x4x2048, .f32⟩
  | .hbm, ⟨44, _⟩ => ⟨S32x4x2048x1, .f32⟩
  | .hbm, ⟨45, _⟩ => ⟨S32x4x2048x256, .f32⟩
  | .hbm, ⟨46, _⟩ => ⟨S32x4x2048x256, .f32⟩
  | .hbm, ⟨47, _⟩ => ⟨S32x4x2048x256, .f32⟩
  | .hbm, ⟨48, _⟩ => ⟨S_, .f32⟩
  | .hbm, ⟨49, _⟩ => ⟨S32x4x2048, .f32⟩
  | .hbm, ⟨50, _⟩ => ⟨S32x4x2048x1, .f32⟩
  | .hbm, ⟨51, _⟩ => ⟨S32x4x2048x256, .f32⟩
  | .hbm, ⟨52, _⟩ => ⟨S32x4x2048x256, .f32⟩
  | .hbm, ⟨53, _⟩ => ⟨S32x4x256x2048, .f32⟩
  | .hbm, ⟨54, _⟩ => ⟨S32x2048x4x256, .f32⟩
  | .hbm, ⟨55, _⟩ => ⟨S32x2048x1024, .f32⟩
  | .hbm, ⟨56, _⟩ => ⟨S1024x1024, .f32⟩
  | .hbm, ⟨57, _⟩ => ⟨S32x2048x1024, .f32⟩
  | .hbm, ⟨58, _⟩ => ⟨S32x2048x1024, .f32⟩
  | .hbm, ⟨59, _⟩ => ⟨S1024, .f32⟩
  | .hbm, ⟨60, _⟩ => ⟨S32x2048x1024, .f32⟩
  | .hbm, ⟨61, _⟩ => ⟨S_, .f32⟩
  | .hbm, ⟨62, _⟩ => ⟨S32x2048, .f32⟩
  | .hbm, ⟨63, _⟩ => ⟨S32x2048x1, .f32⟩
  | .hbm, ⟨64, _⟩ => ⟨S_, .f32⟩
  | .hbm, ⟨65, _⟩ => ⟨S32x2048x1, .f32⟩
  | .hbm, ⟨66, _⟩ => ⟨S32x2048x1, .f32⟩
  | .hbm, ⟨67, _⟩ => ⟨S_, .f32⟩
  | .hbm, ⟨68, _⟩ => ⟨S32x2048x1, .f32⟩
  | .hbm, ⟨69, _⟩ => ⟨S32x2048x1, .f32⟩
  | .hbm, ⟨70, _⟩ => ⟨S32x2048x1, .f32⟩
  | .hbm, ⟨71, _⟩ => ⟨S32x2048x1024, .f32⟩
  | .hbm, ⟨72, _⟩ => ⟨S32x2048x1024, .f32⟩
  | .hbm, ⟨73, _⟩ => ⟨S1x1x1024, .f32⟩
  | .hbm, ⟨74, _⟩ => ⟨S32x2048x1024, .f32⟩
  | .hbm, ⟨75, _⟩ => ⟨S32x2048x1024, .f32⟩
  | .hbm, ⟨76, _⟩ => ⟨S1024x2816, .f32⟩
  | .hbm, ⟨77, _⟩ => ⟨S32x2048x2816, .f32⟩
  | .hbm, ⟨78, _⟩ => ⟨S32x2048x2816, .f32⟩
  | .hbm, ⟨79, _⟩ => ⟨S32x2048x2816, .f32⟩
  | .hbm, ⟨80, _⟩ => ⟨S_, .f32⟩
  | .hbm, ⟨81, _⟩ => ⟨S32x2048x2816, .f32⟩
  | .hbm, ⟨82, _⟩ => ⟨S32x2048x2816, .f32⟩
  | .hbm, ⟨83, _⟩ => ⟨S_, .f32⟩
  | .hbm, ⟨84, _⟩ => ⟨S32x2048x2816, .f32⟩
  | .hbm, ⟨85, _⟩ => ⟨S32x2048x2816, .f32⟩
  | .hbm, ⟨86, _⟩ => ⟨S32x2048x2816, .f32⟩
  | .hbm, ⟨87, _⟩ => ⟨S1024x2816, .f32⟩
  | .hbm, ⟨88, _⟩ => ⟨S32x2048x2816, .f32⟩
  | .hbm, ⟨89, _⟩ => ⟨S32x2048x2816, .f32⟩
  | .hbm, ⟨90, _⟩ => ⟨S2816x1024, .f32⟩
  | .hbm, ⟨91, _⟩ => ⟨S32x2048x1024, .f32⟩
  | .hbm, ⟨92, _⟩ => ⟨S32x2048x1024, .f32⟩
  | .hbm, ⟨93, _⟩ => ⟨S32x2048x1024, .f32⟩
  | .hbm, ⟨94, _⟩ => ⟨S_, .f32⟩
  | .hbm, ⟨95, _⟩ => ⟨S32x2048, .f32⟩
  | .hbm, ⟨96, _⟩ => ⟨S32x2048x1, .f32⟩
  | .hbm, ⟨97, _⟩ => ⟨S_, .f32⟩
  | .hbm, ⟨98, _⟩ => ⟨S32x2048x1, .f32⟩
  | .hbm, ⟨99, _⟩ => ⟨S32x2048x1, .f32⟩
  | .hbm, ⟨100, _⟩ => ⟨S_, .f32⟩
  | .hbm, ⟨101, _⟩ => ⟨S32x2048x1, .f32⟩
  | .hbm, ⟨102, _⟩ => ⟨S32x2048x1, .f32⟩
  | .hbm, ⟨103, _⟩ => ⟨S32x2048x1, .f32⟩
  | .hbm, ⟨104, _⟩ => ⟨S32x2048x1024, .f32⟩
  | .hbm, ⟨105, _⟩ => ⟨S32x2048x1024, .f32⟩
  | .hbm, ⟨106, _⟩ => ⟨S1x1x1024, .f32⟩
  | .hbm, ⟨107, _⟩ => ⟨S32x2048x1024, .f32⟩
  | .hbm, ⟨108, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Kv.lean ====
abbrev S32x256x1024 : Shape := ⟨3, ![32, 256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S32x256x1024, .bf16⟩
  | .hbm, ⟨8, _⟩ => ⟨S32x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvRefIdeal.lean ====
abbrev S32x256x1024 : Shape := ⟨3, ![32, 256, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S32x256x1024, .f32⟩
  | .hbm, ⟨5, _⟩ => ⟨S32x256x1024, .bf16⟩
  | .hbm, ⟨6, _⟩ => ⟨S1024x1024, .f32⟩
  | .hbm, ⟨7, _⟩ => ⟨S32x256x1024, .f32⟩
  | .hbm, ⟨8, _⟩ => ⟨S32x256x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mixer.lean ====
abbrev S32x2048x1024 : Shape := ⟨3, ![32, 2048, 1024]⟩
abbrev S32x2048 : Shape := ⟨2, ![32, 2048]⟩
abbrev S1x1024 : Shape := ⟨2, ![1, 1024]⟩
abbrev S1x1024x6672 : Shape := ⟨3, ![1, 1024, 6672]⟩
abbrev S1x4x1536 : Shape := ⟨3, ![1, 4, 1536]⟩
abbrev S1x1536 : Shape := ⟨2, ![1, 1536]⟩
abbrev S1x16 : Shape := ⟨2, ![1, 16]⟩
abbrev S1x2048x1024 : Shape := ⟨3, ![1, 2048, 1024]⟩
abbrev S32x2048x1 : Shape := ⟨3, ![32, 2048, 1]⟩
abbrev S1024 : Shape := ⟨1, ![1024]⟩
abbrev S1024x6672 : Shape := ⟨2, ![1024, 6672]⟩
abbrev S4x1536 : Shape := ⟨2, ![4, 1536]⟩
abbrev S1536 : Shape := ⟨1, ![1536]⟩
abbrev S16 : Shape := ⟨1, ![16]⟩
abbrev S2048x1024 : Shape := ⟨2, ![2048, 1024]⟩
abbrev S4 : Shape := ⟨1, ![4]⟩
abbrev S4x1 : Shape := ⟨2, ![4, 1]⟩
abbrev S_ : Shape := ⟨0, ![]⟩
abbrev S128 : Shape := ⟨1, ![128]⟩
abbrev S256 : Shape := ⟨1, ![256]⟩
abbrev S1x256 : Shape := ⟨2, ![1, 256]⟩
abbrev S4x256 : Shape := ⟨2, ![4, 256]⟩
abbrev S1024x1024 : Shape := ⟨2, ![1024, 1024]⟩
abbrev S1024x1 : Shape := ⟨2, ![1024, 1]⟩
abbrev S1024x16 : Shape := ⟨2, ![1024, 16]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x128 : Shape := ⟨2, ![4, 128]⟩
abbrev S128x4 : Shape := ⟨2, ![128, 4]⟩
abbrev S1x4 : Shape := ⟨2, ![1, 4]⟩
abbrev S127 : Shape := ⟨1, ![127]⟩
abbrev S1 : Shape := ⟨1, ![1]⟩
abbrev S1024x1536 : Shape := ⟨2, ![1024, 1536]⟩
abbrev S16x1024 : Shape := ⟨2, ![16, 1024]⟩
abbrev S16x1 : Shape := ⟨2, ![16, 1]⟩
abbrev S16x64 : Shape := ⟨2, ![16, 64]⟩
abbrev S16x16 : Shape := ⟨2, ![16, 16]⟩
abbrev S16x16x64 : Shape := ⟨3, ![16, 16, 64]⟩
abbrev S1x256x1024 : Shape := ⟨3, ![1, 256, 1024]⟩
abbrev S1x256x1 : Shape := ⟨3, ![1, 256, 1]⟩
abbrev S264x1536 : Shape := ⟨2, ![264, 1536]⟩
abbrev S256x1024 : Shape := ⟨2, ![256, 1024]⟩
abbrev S256x256 : Shape := ⟨2, ![256, 256]⟩
abbrev S256x16 : Shape := ⟨2, ![256, 16]⟩
abbrev S2x16x128 : Shape := ⟨3, ![2, 16, 128]⟩
abbrev S256x2048 : Shape := ⟨2, ![256, 2048]⟩
abbrev S2x128x512 : Shape := ⟨3, ![2, 128, 512]⟩
abbrev S4x256x256 : Shape := ⟨3, ![4, 256, 256]⟩
abbrev S8x1536 : Shape := ⟨2, ![8, 1536]⟩
abbrev S256x1 : Shape := ⟨2, ![256, 1]⟩
abbrev S256x1536 : Shape := ⟨2, ![256, 1536]⟩
abbrev S16x256 : Shape := ⟨2, ![16, 256]⟩
abbrev S16x128 : Shape := ⟨2, ![16, 128]⟩
abbrev S1x16x128 : Shape := ⟨3, ![1, 16, 128]⟩
abbrev S256x128 : Shape := ⟨2, ![256, 128]⟩
abbrev S128x16 : Shape := ⟨2, ![128, 16]⟩
abbrev S128x1024 : Shape := ⟨2, ![128, 1024]⟩
abbrev S1x128x512 : Shape := ⟨3, ![1, 128, 512]⟩
abbrev S128x512 : Shape := ⟨2, ![128, 512]⟩
abbrev S128x256 : Shape := ⟨2, ![128, 256]⟩
abbrev S1x512 : Shape := ⟨2, ![1, 512]⟩
abbrev S1x256x256 : Shape := ⟨3, ![1, 256, 256]⟩
abbrev S1x1 : Shape := ⟨2, ![1, 1]⟩

abbrev nBuf : Space → Nat
  | .hbm => 207
  | .vmem => 46
  | .smem => 0
  | _ => 0

abbrev hbmTy0_0 (i : Nat) : BufTy := match i % 128 with
  | 0 => ⟨S32x2048x1024, .f32⟩
  | 1 => ⟨S32x2048, .i32⟩
  | 2 => ⟨S1x1024, .f32⟩
  | 3 => ⟨S1x1024x6672, .f32⟩
  | 4 => ⟨S1x4x1536, .f32⟩
  | 5 => ⟨S1x1536, .f32⟩
  | 6 => ⟨S1x16, .f32⟩
  | 7 => ⟨S1x16, .f32⟩
  | 8 => ⟨S1x16, .f32⟩
  | 9 => ⟨S1x1024, .f32⟩
  | 10 => ⟨S1x2048x1024, .f32⟩
  | 11 => ⟨S32x2048, .f32⟩
  | 12 => ⟨S32x2048x1, .f32⟩
  | 13 => ⟨S1024, .f32⟩
  | 14 => ⟨S1024x6672, .f32⟩
  | 15 => ⟨S4x1536, .f32⟩
  | 16 => ⟨S1536, .f32⟩
  | 17 => ⟨S16, .f32⟩
  | 18 => ⟨S16, .f32⟩
  | 19 => ⟨S16, .f32⟩
  | 20 => ⟨S1024, .f32⟩
  | 21 => ⟨S2048x1024, .f32⟩
  | 22 => ⟨S4, .i32⟩
  | 23 => ⟨S4x1, .i32⟩
  | 24 => ⟨S_, .i32⟩
  | 25 => ⟨S4x1, .i32⟩
  | 26 => ⟨S4x1, .i32⟩
  | 27 => ⟨S128, .i32⟩
  | 28 => ⟨S_, .i32⟩
  | 29 => ⟨S128, .i32⟩
  | 30 => ⟨S128, .i32⟩
  | 31 => ⟨S_, .i32⟩
  | 32 => ⟨S128, .i32⟩
  | 33 => ⟨S128, .i32⟩
  | 34 => ⟨S128, .i32⟩
  | 35 => ⟨S_, .i32⟩
  | 36 => ⟨S128, .i32⟩
  | 37 => ⟨S128, .i32⟩
  | 38 => ⟨S_, .i32⟩
  | 39 => ⟨S128, .i32⟩
  | 40 => ⟨S128, .i32⟩
  | 41 => ⟨S256, .i32⟩
  | 42 => ⟨S1x256, .i32⟩
  | 43 => ⟨S4x256, .i32⟩
  | 44 => ⟨S4x256, .i32⟩
  | 45 => ⟨S4x256, .i32⟩
  | 46 => ⟨S1024, .i32⟩
  | 47 => ⟨S1024x1024, .f32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S1024x1024, .f32⟩
  | 57 => ⟨S1024x1024, .f32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1024x1024, .f32⟩
  | 67 => ⟨S1024x16, .f32⟩
  | 68 => ⟨S128, .f32⟩
  | 69 => ⟨S4, .f32⟩
  | 70 => ⟨S_, .f32⟩
  | 71 => ⟨S4, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S128x1, .f32⟩
  | 81 => ⟨S1x128, .f32⟩
  | 82 => ⟨S128x128, .f32⟩
  | 83 => ⟨S128x128, .f32⟩
  | 84 => ⟨S128x128, .f32⟩
  | 85 => ⟨S1x128x128, .f32⟩
  | 86 => ⟨S_, .f32⟩
  | 87 => ⟨S1x128x128, .f32⟩
  | 88 => ⟨S1x128x128, .i1⟩
  | 89 => ⟨S_, .f32⟩
  | 90 => ⟨S128x128, .f32⟩
  | 91 => ⟨S128x128, .f32⟩
  | 92 => ⟨S1x128x128, .f32⟩
  | 93 => ⟨S4x1x1, .f32⟩
  | 94 => ⟨S4x128x128, .f32⟩
  | 95 => ⟨S4x128x128, .f32⟩
  | 96 => ⟨S4x128x128, .f32⟩
  | 97 => ⟨S4x128x128, .f32⟩
  | 98 => ⟨S_, .f32⟩
  | 99 => ⟨S_, .f32⟩
  | 100 => ⟨S4x128x128, .i1⟩
  | 101 => ⟨S4x128x128, .f32⟩
  | 102 => ⟨S4x128x128, .f32⟩
  | 103 => ⟨S_, .f32⟩
  | 104 => ⟨S128, .f32⟩
  | 105 => ⟨S128, .f32⟩
  | 106 => ⟨S1x128, .f32⟩
  | 107 => ⟨S4x1, .f32⟩
  | 108 => ⟨S4x128, .f32⟩
  | 109 => ⟨S4x128, .f32⟩
  | 110 => ⟨S4x128, .f32⟩
  | 111 => ⟨S4x128, .f32⟩
  | 112 => ⟨S_, .f32⟩
  | 113 => ⟨S128, .f32⟩
  | 114 => ⟨S128, .f32⟩
  | 115 => ⟨S1x128, .f32⟩
  | 116 => ⟨S4x1, .f32⟩
  | 117 => ⟨S4x128, .f32⟩
  | 118 => ⟨S4x128, .f32⟩
  | 119 => ⟨S4x128, .f32⟩
  | 120 => ⟨S4x128, .f32⟩
  | 121 => ⟨S_, .f32⟩
  | 122 => ⟨S4, .f32⟩
  | 123 => ⟨S4, .f32⟩
  | 124 => ⟨S4, .f32⟩
  | 125 => ⟨S128x4, .f32⟩
  | 126 => ⟨S128x4, .f32⟩
  | 127 => ⟨S1x4, .f32⟩
  | _ => ⟨S32x2048x1024, .f32⟩

abbrev hbmTy0_1 (i : Nat) : BufTy := match i % 128 with
  | 0 => ⟨S_, .f32⟩
  | 1 => ⟨S128x128, .f32⟩
  | 2 => ⟨S128x128, .i32⟩
  | 3 => ⟨S_, .i32⟩
  | 4 => ⟨S128x128, .i32⟩
  | 5 => ⟨S128x128, .i32⟩
  | 6 => ⟨S128x128, .i32⟩
  | 7 => ⟨S128x128, .i1⟩
  | 8 => ⟨S_, .f32⟩
  | 9 => ⟨S128x128, .f32⟩
  | 10 => ⟨S128x128, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S127, .f32⟩
  | 19 => ⟨S_, .f32⟩
  | 20 => ⟨S127, .f32⟩
  | 21 => ⟨S127, .f32⟩
  | 22 => ⟨S1, .f32⟩
  | 23 => ⟨S_, .f32⟩
  | 24 => ⟨S127, .f32⟩
  | 25 => ⟨S127, .f32⟩
  | 26 => ⟨S127, .f32⟩
  | 27 => ⟨S127, .f32⟩
  | 28 => ⟨S1, .f32⟩
  | 29 => ⟨S127, .f32⟩
  | 30 => ⟨S127, .f32⟩
  | 31 => ⟨S127, .f32⟩
  | 32 => ⟨S1, .f32⟩
  | 33 => ⟨S128, .f32⟩
  | 34 => ⟨S_, .f32⟩
  | 35 => ⟨S128, .f32⟩
  | 36 => ⟨S128, .f32⟩
  | 37 => ⟨S_, .f32⟩
  | 38 => ⟨S128, .f32⟩
  | 39 => ⟨S128, .f32⟩
  | 40 => ⟨S1x128, .f32⟩
  | 41 => ⟨S1x1024, .f32⟩
  | 42 => ⟨S1024x1024, .f32⟩
  | 43 => ⟨S1024x1024, .bf16⟩
  | 44 => ⟨S1024x1536, .f32⟩
  | 45 => ⟨S1024x1536, .bf16⟩
  | 46 => ⟨S1024x16, .bf16⟩
  | 47 => ⟨S16x1024, .f32⟩
  | 48 => ⟨S16x1024, .bf16⟩
  | 49 => ⟨S1024x1024, .bf16⟩
  | 50 => ⟨S1024x1024, .bf16⟩
  | 51 => ⟨S1024x1024, .f32⟩
  | 52 => ⟨S1024x1024, .bf16⟩
  | 53 => ⟨S1024x1024, .f32⟩
  | 54 => ⟨S1024x1024, .bf16⟩
  | 55 => ⟨S1x1536, .f32⟩
  | 56 => ⟨S1x16, .f32⟩
  | 57 => ⟨S16x1, .f32⟩
  | 58 => ⟨S1x16, .f32⟩
  | 59 => ⟨S16x1, .f32⟩
  | 60 => ⟨S16x64, .f32⟩
  | 61 => ⟨S1024, .f32⟩
  | 62 => ⟨S1x1024, .f32⟩
  | 63 => ⟨S1x1024, .f32⟩
  | 64 => ⟨S16x16, .i32⟩
  | 65 => ⟨S16x16, .i32⟩
  | 66 => ⟨S_, .i32⟩
  | 67 => ⟨S16x16, .i32⟩
  | 68 => ⟨S16x16, .i32⟩
  | 69 => ⟨S16x16, .i1⟩
  | 70 => ⟨S16x16, .f32⟩
  | 71 => ⟨S16x16x64, .f32⟩
  | 72 => ⟨S16x1024, .f32⟩
  | 73 => ⟨S16x1024, .bf16⟩
  | 74 => ⟨S128x128, .bf16⟩
  | 75 => ⟨S128x128, .f32⟩
  | 76 => ⟨S128x128, .bf16⟩
  | 77 => ⟨S2048x1024, .bf16⟩
  | 78 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1, .f32⟩
  | .local _ .vmem, ⟨3, _⟩ => ⟨S1x256x1, .f32⟩
  | .local _ .vmem, ⟨4, _⟩ => ⟨S1x128, .f32⟩
  | .local _ .vmem, ⟨5, _⟩ => ⟨S1x1024, .f32⟩
  | .local _ .vmem, ⟨6, _⟩ => ⟨S1024x1024, .bf16⟩
  | .local _ .vmem, ⟨7, _⟩ => ⟨S1024x1536, .bf16⟩
  | .local _ .vmem, ⟨8, _⟩ => ⟨S1024x16, .bf16⟩
  | .local _ .vmem, ⟨9, _⟩ => ⟨S16x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4x1536, .f32⟩
  | .local _ .vmem, ⟨15, _⟩ => ⟨S1x1536, .f32⟩
  | .local _ .vmem, ⟨16, _⟩ => ⟨S1x16, .f32⟩
  | .local _ .vmem, ⟨17, _⟩ => ⟨S16x1, .f32⟩
  | .local _ .vmem, ⟨18, _⟩ => ⟨S1x16, .f32⟩
  | .local _ .vmem, ⟨19, _⟩ => ⟨S16x1, .f32⟩
  | .local _ .vmem, ⟨20, _⟩ => ⟨S1x1024, .f32⟩
  | .local _ .vmem, ⟨21, _⟩ => ⟨S1x1024, .f32⟩
  | .local _ .vmem, ⟨22, _⟩ => ⟨S16x1024, .bf16⟩
  | .local _ .vmem, ⟨23, _⟩ => ⟨S128x128, .bf16⟩
  | .local _ .vmem, ⟨24, _⟩ => ⟨S128x128, .bf16⟩
  | .local _ .vmem, ⟨25, _⟩ => ⟨S4x128x128, .f32⟩
  | .local _ .vmem, ⟨26, _⟩ => ⟨S128x4, .f32⟩
  | .local _ .vmem, ⟨27, _⟩ => ⟨S128x4, .f32⟩
  | .local _ .vmem, ⟨28, _⟩ => ⟨S1x4, .f32⟩
  | .local _ .vmem, ⟨29, _⟩ => ⟨S2048x1024, .bf16⟩
  | .local _ .vmem, ⟨30, _⟩ => ⟨S1x256x1024, .f32⟩
  | .local _ .vmem, ⟨31, _⟩ => ⟨S1x256x1024, .f32⟩
  | .local _ .vmem, ⟨32, _⟩ => ⟨S264x1536, .f32⟩
  | .local _ .vmem, ⟨33, _⟩ => ⟨S256x1024, .f32⟩
  | .local _ .vmem, ⟨34, _⟩ => ⟨S256x256, .bf16⟩
  | .local _ .vmem, ⟨35, _⟩ => ⟨S256x256, .bf16⟩
  | .local _ .vmem, ⟨36, _⟩ => ⟨S256x1024, .f32⟩
  | .local _ .vmem, ⟨37, _⟩ => ⟨S256x1024, .f32⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x16, .f32⟩
  | .local _ .vmem, ⟨42, _⟩ => ⟨S2x16x128, .f32⟩
  | .local _ .vmem, ⟨43, _⟩ => ⟨S256x2048, .bf16⟩
  | .local _ .vmem, ⟨44, _⟩ => ⟨S2x128x512, .f32⟩
  | .local _ .vmem, ⟨45, _⟩ => ⟨S4x256x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_15 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_v96 : Ref sig .tc := ⟨.hbm, 129, rfl⟩
abbrev main_call1_v0 : Ref sig .tc := ⟨.hbm, 130, rfl⟩
abbrev main_call1_c : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_cst : Ref sig .tc := ⟨.hbm, 136, rfl⟩
abbrev main_call1_v5 : Ref sig .tc := ⟨.hbm, 137, rfl⟩
abbrev main_v97 : Ref sig .tc := ⟨.hbm, 138, rfl⟩
abbrev main_cst_17 : Ref sig .tc := ⟨.hbm, 139, rfl⟩
abbrev main_cst_18 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_call2_cst : Ref sig .tc := ⟨.hbm, 144, rfl⟩
abbrev main_call2_v3 : Ref sig .tc := ⟨.hbm, 145, rfl⟩
abbrev main_call2_v4 : Ref sig .tc := ⟨.hbm, 146, rfl⟩
abbrev main_call2_cst_0 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_v12 : Ref sig .tc := ⟨.hbm, 156, rfl⟩
abbrev main_call2_v13 : Ref sig .tc := ⟨.hbm, 157, rfl⟩
abbrev main_call2_v14 : Ref sig .tc := ⟨.hbm, 158, rfl⟩
abbrev main_call2_v15 : Ref sig .tc := ⟨.hbm, 159, rfl⟩
abbrev main_call2_v16 : Ref sig .tc := ⟨.hbm, 160, rfl⟩
abbrev main_v98 : Ref sig .tc := ⟨.hbm, 161, rfl⟩
abbrev main_cst_19 : Ref sig .tc := ⟨.hbm, 162, rfl⟩
abbrev main_v99 : Ref sig .tc := ⟨.hbm, 163, rfl⟩
abbrev main_v100 : Ref sig .tc := ⟨.hbm, 164, rfl⟩
abbrev main_cst_20 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_c_21 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg28_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_scratch9 : Ref sig .tc := ⟨.vmem, 41, rfl⟩
abbrev cc0_scratch10 : Ref sig .tc := ⟨.vmem, 42, rfl⟩
abbrev cc0_scratch11 : Ref sig .tc := ⟨.vmem, 43, rfl⟩
abbrev cc0_scratch12 : Ref sig .tc := ⟨.vmem, 44, rfl⟩
abbrev cc0_scratch13 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem28_1 : DmaSem sig := 31

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_126 : BitVec 32 := 0#32
  let c2_i32 : BitVec 32 := 2#32
  let v323 : BitVec 32 := Scalar.addi c0_i32_126 c2_i32
  let c1_i32 : BitVec 32 := 1#32
  ⟨c0_i32_126, v323, c1_i32⟩
def k0_mult1 (k0_t1 : Fin k0_t1_loop.trips) : BitVec 32 :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  v334
def k0_off1 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v336 : Index := Scalar.indexCast v335
  let c0_139 : Index := 0#32
  ![v336.toNat, 0]
def k0_off2 (k0_t1 : Fin k0_t1_loop.trips) : Fin 3 → Nat :=
  let c0_i32_126 : BitVec 32 := 0#32
  let c1_i32 : BitVec 32 := 1#32
  let arg45 : BitVec 32 := Scf.iv c0_i32_126 c1_i32 k0_t1
  let v338 : Index := Scalar.indexCast arg45
  let c0_140 : Index := 0#32
  let c0_141 : Index := 0#32
  ![v338.toNat, 0, 0]
def k0_off3 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v397 : Index := Scalar.indexCast v335
  let c0_159 : Index := 0#32
  ![v397.toNat, 0]
def k0_off4 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v406 : Index := Scalar.indexCast v335
  let c0_160 : Index := 0#32
  ![v406.toNat, 0]
def k0_off5 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v558 : Index := Scalar.indexCast v335
  let c128_187 : Index := 128#32
  ![v558.toNat, 128]
def k0_off6 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v734 : Index := Scalar.indexCast v335
  let c0_222 : Index := 0#32
  ![v734.toNat, 0]
def k0_off7 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v738 : Index := Scalar.indexCast v335
  let c0_223 : Index := 0#32
  ![v738.toNat, 0]
def k0_off8 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v791 : Index := Scalar.indexCast v335
  let c1024 : Index := 1024#32
  ![v791.toNat, 1024]
def k0_off9 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v795 : Index := Scalar.indexCast v335
  let c256_249 : Index := 256#32
  ![v795.toNat, 256]
def k0_off10 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v848 : Index := Scalar.indexCast v335
  let c1280 : Index := 1280#32
  ![v848.toNat, 1280]
def k0_off11 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v852 : Index := Scalar.indexCast v335
  let c512_275 : Index := 512#32
  ![v852.toNat, 512]
def k0_off12 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v905 : Index := Scalar.indexCast v335
  let c1536 : Index := 1536#32
  ![v905.toNat, 1536]
def k0_off13 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v909 : Index := Scalar.indexCast v335
  let c768_301 : Index := 768#32
  ![v909.toNat, 768]
def k0_off14 (k0_t1 : Fin k0_t1_loop.trips) : Fin 2 → Nat :=
  let c0_i32_126 : BitVec 32 := 0#32
  let c1_i32 : BitVec 32 := 1#32
  let arg45 : BitVec 32 := Scf.iv c0_i32_126 c1_i32 k0_t1
  let c128_i32 : BitVec 32 := 128#32
  let v334 : BitVec 32 := Scalar.muli arg45 c128_i32
  let v335 : BitVec 32 := v334
  let v962 : Index := Scalar.indexCast v335
  let c1792 : Index := 1792#32
  ![v962.toNat, 1792]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S16x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S128x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S128x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x4 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S2048x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 2 → Memref sig .tc .vmem S1x256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== Proof.AttnSpec.lean ====
module

public import Idealize.ShloMosaic.Lib.Pointwise
public import Idealize.ShloMosaic.Lib.IdealHost

@[expose] public section

/-! The attention and feed-forward layer of ONE token row, as functions of that row: what both the
kernel's blocks and the reference's arrays are shown to hold at every index. -/

set_option maxRecDepth 16384

noncomputable section

open Idealize.ShloMosaic

namespace Attn

/-- The row `x` divided by its root mean square and multiplied by the gain `g`. -/
def rms (x g : Fin 1024 → EReal) (i : Fin 1024) : EReal :=
  x i * Ideal.rsqrt (Ideal.div (∑ k, x k * x k) (Ideal.ofBits .f32 0x44800000#32) + Ideal.ofBits .f32 0x358637BD#32) * g i

/-- The row `x` times the matrix `w`. -/
def mv {n p : ℕ} (x : Fin n → EReal) (w : Fin n → Fin p → EReal) (j : Fin p) : EReal := ∑ k, x k * w k j

/-- The scaled score of the query `q` of one head against its key of memory token `t`. -/
def logit (q : Fin 256 → EReal) (K : Fin 256 → Fin 256 → EReal) (t : Fin 256) : EReal :=
  (∑ d, q d * K t d) * Ideal.ofBits .f32 0x3D800000#32

/-- The largest score. -/
def top (l : Fin 256 → EReal) : EReal := Finset.univ.fold max (Ideal.ofBits .f32 0xFF800000#32) l

/-- The softmax of a row of scores. -/
def soft (l : Fin 256 → EReal) (t : Fin 256) : EReal :=
  Ideal.div (Ideal.exp (l t - top l)) (∑ s, Ideal.exp (l s - top l))

/-- What one head reads from the memory's values. -/
def ctx (q : Fin 256 → EReal) (K V : Fin 256 → Fin 256 → EReal) (d : Fin 256) : EReal :=
  ∑ t, soft (logit q K) t * V t d

/-- Column `d` of head `h`. -/
def col (h : ℕ) (hh : h < 4) (d : Fin 256) : Fin 1024 := ⟨h * 256 + d.val, by omega⟩

/-- The heads side by side: columns `256 h … 256 h + 255` are head `h`'s. -/
def ctxRow (q : Fin 1024 → EReal) (K V : Fin 256 → Fin 1024 → EReal) (e : Fin 1024) : EReal :=
  ctx (fun d => q (col (e.val / 256) (by omega) d)) (fun t d => K t (col (e.val / 256) (by omega) d))
    (fun t d => V t (col (e.val / 256) (by omega) d)) ⟨e.val % 256, by omega⟩

/-- The row after the attention sublayer and its residual. -/
def mid (x : Fin 1024 → EReal) (K V : Fin 256 → Fin 1024 → EReal) (g : Fin 1024 → EReal)
    (Wq Wo : Fin 1024 → Fin 1024 → EReal) (i : Fin 1024) : EReal :=
  x i + ∑ k, ctxRow (mv (rms x g) Wq) K V k * Wo k i

/-- `z / (1 + exp (-z))`. -/
def silu (z : EReal) : EReal := Ideal.div z (1 + Ideal.exp (-z))

/-- The gated feed-forward sublayer of the row `x`. -/
def ffn (x g : Fin 1024 → EReal) (Wg Wu : Fin 1024 → Fin 2816 → EReal) (Wd : Fin 2816 → Fin 1024 → EReal)
    (i : Fin 1024) : EReal :=
  ∑ j, silu (mv (rms x g) Wg j) * mv (rms x g) Wu j * Wd j i

/-- The row after both sublayers and the final normalisation. -/
def out (x : Fin 1024 → EReal) (K V : Fin 256 → Fin 1024 → EReal) (g₁ : Fin 1024 → EReal)
    (Wq Wo : Fin 1024 → Fin 1024 → EReal) (g₂ : Fin 1024 → EReal) (Wg Wu : Fin 1024 → Fin 2816 → EReal)
    (Wd : Fin 2816 → Fin 1024 → EReal) (g₃ : Fin 1024 → EReal) : Fin 1024 → EReal :=
  rms (fun i => mid x K V g₁ Wq Wo i + ffn (mid x K V g₁ Wq Wo) g₂ Wg Wu Wd i) g₃

/-- The layer of every token row of every batch: row `s` of batch `b` reads that batch's keys and values. -/
def layer (X : FVec Ideal ⟨3, ![32, 2048, 1024]⟩ .f32) (K V : FVec Ideal ⟨3, ![32, 256, 1024]⟩ .bf16)
    (Wq Wo : FVec Ideal ⟨3, ![1, 1024, 1024]⟩ .f32) (g₁ g₂ : FVec Ideal ⟨2, ![1, 1024]⟩ .f32)
    (Wg Wu : FVec Ideal ⟨3, ![1, 1024, 2816]⟩ .f32) (Wd : FVec Ideal ⟨3, ![1, 2816, 1024]⟩ .f32)
    (g₃ : FVec Ideal ⟨1, ![1024]⟩ .f32) : FVec Ideal ⟨3, ![32, 2048, 1024]⟩ .f32 := fun j =>
  out (fun i => X (ix3 (j 0) (j 1) i)) (fun t i => K (ix3 (j 0) t i)) (fun t i => V (ix3 (j 0) t i)) (fun i => g₁ (ix2 0 i))
    (fun i k => Wq (ix3 0 i k)) (fun i k => Wo (ix3 0 i k)) (fun i => g₂ (ix2 0 i)) (fun i k => Wg (ix3 0 i k))
    (fun i k => Wu (ix3 0 i k)) (fun i k => Wd (ix3 0 i k)) (fun i => g₃ (ix1 i)) (j 2)

/-- The exponential is nowhere negative, so `1 + exp z` is not zero. -/
theorem one_add_exp_ne (z : EReal) : 1 + Ideal.exp z ≠ 0 := by
  have h : (0 : EReal) ≤ Ideal.exp z := by
    induction z using EReal.rec with
    | bot => simp
    | top => simp
    | coe r => rw [Ideal.exp_coe]; exact EReal.coe_nonneg.mpr (Real.exp_pos r).le
  have h1 : (1 : EReal) ≤ 1 + Ideal.exp z := le_add_of_nonneg_right h
  intro e; rw [e] at h1; exact absurd h1 (by simp)

/-- The scale of a gate as a product is the same as the quotient. -/
theorem silu_mul (z : EReal) : z * Ideal.div 1 (1 + Ideal.exp (-z)) = silu z :=
  Ideal.mul_one_div (one_add_exp_ne _)

end Attn
-- ==== Proof.AttnKernel.lean ====
module

public import proofs.«01_k».proof.Proof.AttnSpec
public import proofs.«01_k».proof.Proof.Gen.AttnIdeal.Skeleton

/-! What each stored or passed-on value of the attention kernel's body is, read at an index: the row
functions of `AttnSpec` of the loaded blocks' rows. -/

@[expose] public section

set_option maxRecDepth 16384

noncomputable section

open Idealize.ShloMosaic

namespace Cert.AttnIdeal.Stage
open Cert.AttnIdeal Cert.AttnIdeal.Gen Attn

/-- The query projection of the normalised row. -/
theorem pay3_at (v0 : FVec Ideal S1x512x1024 .f32) (v12 : FVec Ideal S1x1024 .f32)
    (v17 : FVec Ideal S1024x1024 .bf16) (r : Fin 512) (e : Fin 1024) :
    k0_pay3 (F := Ideal) v0 v12 v17 (ix2 r e) = mv (rms (fun i => v0 (ix3 0 r i)) (fun i => v12 (ix2 0 i))) (fun i j => v17 (ix2 i j)) e := by
  pointwise [k0_pay3, k0_pay2, mv, rms]

/-- The first head's attention weights. -/
theorem pay4_at (v0 : FVec Ideal S1x512x1024 .f32) (v12 : FVec Ideal S1x1024 .f32)
    (v17 : FVec Ideal S1024x1024 .bf16) (v22 : FVec Ideal S1x256x256 .bf16) (r : Fin 512) (t : Fin 256) :
    k0_pay4 (F := Ideal) v0 v12 v17 v22 (ix2 r t)
      = soft (logit (fun d => k0_pay3 (F := Ideal) v0 v12 v17 (ix2 r (col 0 (by decide) d))) (fun t d => v22 (ix3 0 t d))) t := by
  pointwise [k0_pay4, soft, top, logit, col]

/-- The first head's weighted sum of the values. -/
theorem pay5_at (v36 : FVec Ideal S512x256 .bf16) (v37 : FVec Ideal S1x256x256 .bf16) (r : Fin 512) (d : Fin 256) :
    k0_pay5 v36 v37 (ix2 r d) = ∑ t, v36 (ix2 r t) * v37 (ix3 0 t d) := by
  pointwise [k0_pay5]

/-- The second head. -/
theorem pay6_at (v20 : FVec Ideal S512x1024 .bf16) (v45 v60 : FVec Ideal S1x256x256 .bf16) (r : Fin 512) (d : Fin 256) :
    k0_pay6 v20 v45 v60 (ix2 r d)
      = ctx (fun d => v20 (ix2 r (col 1 (by decide) d))) (fun t d => v45 (ix3 0 t d)) (fun t d => v60 (ix3 0 t d)) d := by
  pointwise [k0_pay6, ctx, soft, top, logit, col]

/-- The third head. -/
theorem pay8_at (v20 : FVec Ideal S512x1024 .bf16) (v68 v83 : FVec Ideal S1x256x256 .bf16) (r : Fin 512) (d : Fin 256) :
    k0_pay8 (k0_pay7 v20 v68) v83 (ix2 r d)
      = ctx (fun d => v20 (ix2 r (col 2 (by decide) d))) (fun t d => v68 (ix3 0 t d)) (fun t d => v83 (ix3 0 t d)) d := by
  pointwise [k0_pay8, k0_pay7, ctx, soft, top, logit, col]

/-- The fourth head. -/
theorem pay9_at (v20 : FVec Ideal S512x1024 .bf16) (v91 v106 : FVec Ideal S1x256x256 .bf16) (r : Fin 512) (d : Fin 256) :
    k0_pay10 (k0_pay9 v20 v91 v106) (ix2 r d)
      = ctx (fun d => v20 (ix2 r (col 3 (by decide) d))) (fun t d => v91 (ix3 0 t d)) (fun t d => v106 (ix3 0 t d)) d := by
  pointwise [k0_pay10, k0_pay9, ctx, soft, top, logit, col]

/-- The output projection and the residual. -/
theorem pay11_at (v1 : FVec Ideal S512x1024 .f32) (v113 : FVec Ideal S512x1024 .bf16)
    (v114 : FVec Ideal S1024x1024 .bf16) (r : Fin 512) (i : Fin 1024) :
    k0_pay11 v1 v113 v114 (ix2 r i) = v1 (ix2 r i) + ∑ k, v113 (ix2 r k) * v114 (ix2 k i) := by
  pointwise [k0_pay11]

/-- The gated feed-forward sublayer. -/
theorem pay12_at (v1 : FVec Ideal S512x1024 .f32) (v113 : FVec Ideal S512x1024 .bf16)
    (v114 : FVec Ideal S1024x1024 .bf16) (v128 : FVec Ideal S1x1024 .f32)
    (v133 v142 : FVec Ideal S1024x2816 .bf16) (v147 : FVec Ideal S2816x1024 .bf16) (r : Fin 512) (i : Fin 1024) :
    k0_pay12 v1 v113 v114 v128 v133 v142 v147 (ix2 r i)
      = ffn (fun i => k0_pay11 v1 v113 v114 (ix2 r i)) (fun i => v128 (ix2 0 i)) (fun i j => v133 (ix2 i j))
          (fun i j => v142 (ix2 i j)) (fun i j => v147 (ix2 i j)) i := by
  pointwise [k0_pay12, ffn, mv, rms, silu]
  simp only [zero_sub]

/-- The second residual and the final normalisation. -/
theorem pay1_at (v117 v149 : FVec Ideal S512x1024 .f32) (v161 : FVec Ideal S1x1024 .f32) (r : Fin 512) (i : Fin 1024) :
    k0_pay1 v117 v149 v161 (ix3 0 r i)
      = rms (fun i => v117 (ix2 r i) + v149 (ix2 r i)) (fun i => v161 (ix2 0 i)) i := by
  pointwise [k0_pay1, rms]

end Cert.AttnIdeal.Stage
-- ==== Proof.AttnValue.lean ====
module

public import proofs.«01_k».proof.Proof.AttnKernel
public import proofs.«01_k».proof.Proof.Gen.AttnIdeal.Value
public import Idealize.ShloMosaic.Lib.Pipeline.ValueKit
public import Idealize.ShloMosaic.Lib.Claim

/-! The attention kernel's result array is the layer of every token row. -/

@[expose] public section

set_option maxRecDepth 16384

noncomputable section

open Idealize.ShloMosaic Idealize.ShloMosaic.TcCoe Idealize.SL.Sem
open Idealize.ShloMosaic.Pipeline (Dat)

namespace Cert.AttnIdeal.RefValue
open Cert.AttnIdeal Cert.AttnIdeal.Gen Cert.AttnIdeal.Stage Attn

variable (m : (ℓ : Loc nD τ sig) → Buf (Elt Ideal) ℓ)

/-- Every window's block index at grid point `t`. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val / 4, t.val % 4, 0] ∧ t.val / 4 < 32 :=
  (by decide +kernel : ∀ t : Fin grid0.N, _)

/-- The batch of grid point `t`. -/
def bat (t : Fin cfg0.N) : Fin 32 := ⟨t.val / 4, (idx t).2.2.2.2.2.2.2.2.2.2.2.2⟩
/-- Row `r` of grid point `t`'s tile, as a row of the batch. -/
def row (t : Fin cfg0.N) (r : Fin 512) : Fin 2048 := ⟨t.val % 4 * 512 + r.val, by omega⟩

theorem blk0 (c : Dev nD) (t : Fin cfg0.N) (r : Fin 512) (i : Fin 1024) :
    (iblk m c 0 t : FVec Ideal S1x512x1024 .f32) (ix3 0 r i) = m ((c : Thread nD τ).loc main_arg0) (ix3 (bat t) (row t r) i) := by
  blk_point [iblk, V, idx t, bat, row]
theorem blk1 (c : Dev nD) (t : Fin cfg0.N) (r : Fin 256) (i : Fin 1024) :
    (iblk m c 1 t : FVec Ideal S1x256x1024 .bf16) (ix3 0 r i) = m ((c : Thread nD τ).loc main_arg1) (ix3 (bat t) r i) := by
  blk_point [iblk, V, idx t, bat]
theorem blk2 (c : Dev nD) (t : Fin cfg0.N) (r : Fin 256) (i : Fin 1024) :
    (iblk m c 2 t : FVec Ideal S1x256x1024 .bf16) (ix3 0 r i) = m ((c : Thread nD τ).loc main_arg2) (ix3 (bat t) r i) := by
  blk_point [iblk, V, idx t, bat]
theorem blk3 (c : Dev nD) (t : Fin cfg0.N) (i : Fin 1024) :
    (iblk m c 3 t : FVec Ideal S1x1024 .f32) (ix2 0 i) = m ((c : Thread nD τ).loc main_arg5) (ix2 0 i) := by
  blk_point [iblk, V, idx t]
theorem blk4 (c : Dev nD) (t : Fin cfg0.N) (i k : Fin 1024) :
    (iblk m c 4 t : FVec Ideal S1024x1024 .bf16) (ix2 i k) = m ((c : Thread nD τ).loc main_arg3) (ix3 0 i k) := by
  blk_point [iblk, V, idx t]
theorem blk5 (c : Dev nD) (t : Fin cfg0.N) (i k : Fin 1024) :
    (iblk m c 5 t : FVec Ideal S1024x1024 .bf16) (ix2 i k) = m ((c : Thread nD τ).loc main_arg4) (ix3 0 i k) := by
  blk_point [iblk, V, idx t]
theorem blk6 (c : Dev nD) (t : Fin cfg0.N) (i : Fin 1024) :
    (iblk m c 6 t : FVec Ideal S1x1024 .f32) (ix2 0 i) = m ((c : Thread nD τ).loc main_arg6) (ix2 0 i) := by
  blk_point [iblk, V, idx t]
theorem blk7 (c : Dev nD) (t : Fin cfg0.N) (i : Fin 1024) (k : Fin 2816) :
    (iblk m c 7 t : FVec Ideal S1024x2816 .bf16) (ix2 i k) = m ((c : Thread nD τ).loc main_arg7) (ix3 0 i k) := by
  blk_point [iblk, V, idx t]
theorem blk8 (c : Dev nD) (t : Fin cfg0.N) (i : Fin 1024) (k : Fin 2816) :
    (iblk m c 8 t : FVec Ideal S1024x2816 .bf16) (ix2 i k) = m ((c : Thread nD τ).loc main_arg8) (ix3 0 i k) := by
  blk_point [iblk, V, idx t]
theorem blk9 (c : Dev nD) (t : Fin cfg0.N) (i : Fin 2816) (k : Fin 1024) :
    (iblk m c 9 t : FVec Ideal S2816x1024 .bf16) (ix2 i k) = m ((c : Thread nD τ).loc main_arg9) (ix3 0 i k) := by
  blk_point [iblk, V, idx t]
theorem blk10 (c : Dev nD) (t : Fin cfg0.N) (i : Fin 1024) :
    (iblk m c 10 t : FVec Ideal S1x1024 .f32) (ix2 0 i) = m ((c : Thread nD τ).loc main_arg10) (ix1 i) := by
  blk_point [iblk, V, idx t]

/-- The tile written from a token tile `x0`, its batch's keys and values `x1`, `x2`, the other operands, and attention
rows `A` which are the heads side by side. -/
theorem tile_of (x0 : FVec Ideal S1x512x1024 .f32) (x1 x2 : FVec Ideal S1x256x1024 .bf16) (x3 : FVec Ideal S1x1024 .f32)
    (x4 x5 : FVec Ideal S1024x1024 .bf16) (x6 : FVec Ideal S1x1024 .f32) (x7 x8 : FVec Ideal S1024x2816 .bf16)
    (x9 : FVec Ideal S2816x1024 .bf16) (x10 : FVec Ideal S1x1024 .f32) (A : FVec Ideal S512x1024 .bf16)
    (hA : ∀ r e, A (ix2 r e) = ctxRow (fun i => k0_pay3 (F := Ideal) x0 x3 x4 (ix2 r i)) (fun t i => x1 (ix3 0 t i))
      (fun t i => x2 (ix3 0 t i)) e) (r : Fin 512) (i : Fin 1024) :
    k0_pay1 (F := Ideal) (k0_pay11 (k0_pay2 x0) A x5) (k0_pay12 (k0_pay2 x0) A x5 x6 x7 x8 x9) x10 (ix3 0 r i)
      = out (fun i => x0 (ix3 0 r i)) (fun t i => x1 (ix3 0 t i)) (fun t i => x2 (ix3 0 t i)) (fun i => x3 (ix2 0 i))
          (fun i k => x4 (ix2 i k)) (fun i k => x5 (ix2 i k)) (fun i => x6 (ix2 0 i)) (fun i k => x7 (ix2 i k))
          (fun i k => x8 (ix2 i k)) (fun i k => x9 (ix2 i k)) (fun i => x10 (ix2 0 i)) i := by
  have h2 : ∀ i, k0_pay2 (F := Ideal) x0 (ix2 r i) = x0 (ix3 0 r i) := by intro i; pointwise [k0_pay2]
  have h11 : (fun i => k0_pay11 (k0_pay2 (F := Ideal) x0) A x5 (ix2 r i)) = mid (fun i => x0 (ix3 0 r i)) (fun t i => x1 (ix3 0 t i))
      (fun t i => x2 (ix3 0 t i)) (fun i => x3 (ix2 0 i)) (fun i k => x4 (ix2 i k)) (fun i k => x5 (ix2 i k)) := by
    funext i
    rw [pay11_at, h2]
    simp only [hA, pay3_at]; rfl
  rw [pay1_at]
  simp only [pay12_at, h11, congrFun h11]; rfl

/-- One head's columns of the attention row, from that head's slices `k`, `v` of the keys and values. -/
theorem ctx_head (h : ℕ) (hh : h < 4) (q : Fin 1024 → EReal) (K V : FVec Ideal S1x256x1024 .bf16)
    (k v : FVec Ideal S1x256x256 .bf16) (hk : ∀ s d, k (ix3 0 s d) = K (ix3 0 s (col h hh d)))
    (hv : ∀ s d, v (ix3 0 s d) = V (ix3 0 s (col h hh d))) (e : Fin 1024) (d : Fin 256) (he : e.val = h * 256 + d.val) :
    ctx (fun d => q (col h hh d)) (fun s d => k (ix3 0 s d)) (fun s d => v (ix3 0 s d)) d
      = ctxRow q (fun s i => K (ix3 0 s i)) (fun s i => V (ix3 0 s i)) e := by
  simp only [hk, hv]
  unfold ctxRow
  have hc : ∀ d' : Fin 256, col (e.val / 256) (by omega) d' = col h hh d' := fun d' => Fin.ext (by
    show e.val / 256 * 256 + d'.val = h * 256 + d'.val; omega)
  have hd : (⟨e.val % 256, by omega⟩ : Fin 256) = d := Fin.ext (by show e.val % 256 = d.val; omega)
  simp only [hc, hd]

/-- A head's slice of a batch's keys or values. -/
theorem ld_head (h o : ℕ) (hh : h < 4) (ho : o = h * 256) (K : FVec Ideal S1x256x1024 .bf16)
    (inb : ∀ a, (![0, 0, o] : Fin 3 → ℕ) a + (![1, 256, 256] : Fin 3 → ℕ) a ≤ S1x256x1024.size a) (s d : Fin 256) :
    (View.ld (Val := Elt Ideal) (e' := .bf16) K (Rect.unit (s := S1x256x1024) ![0, 0, o] ![1, 256, 256] inb) : FVec Ideal S1x256x256 .bf16) (ix3 0 s d) = K (ix3 0 s (col h hh d)) := by
  refine View.ld_unit_apply_of (Val := Elt Ideal) (e := .bf16) (S := S1x256x1024) K _ _ _ _ _ fun a => ?_
  fin_cases a
  · rfl
  · exact (Nat.zero_add _).symm
  · show h * 256 + d.val = o + d.val; omega

/-- Slice `o … o + 255` of the columns of a batch's keys or values. -/
abbrev sl (o : ℕ) (inb : ∀ a, (![0, 0, o] : Fin 3 → ℕ) a + (![1, 256, 256] : Fin 3 → ℕ) a ≤ S1x256x1024.size a)
    (K : FVec Ideal S1x256x1024 .bf16) : FVec Ideal S1x256x256 .bf16 :=
  View.ld (Val := Elt Ideal) (e' := .bf16) K (Rect.unit (s := S1x256x1024) ![0, 0, o] ![1, 256, 256] inb)

/-- Columns `768 …` of the attention rows. -/
theorem head3 (q : FVec Ideal S512x1024 .bf16) (K V : FVec Ideal S1x256x1024 .bf16) (h1) (h2) (r : Fin 512) (d : Fin 256)
    (e : Fin 1024) (he : e.val = 768 + d.val) :
    k0_pay10 (k0_pay9 q (sl 768 h1 K) (sl 768 h2 V)) (ix2 r d)
      = ctxRow (fun i => q (ix2 r i)) (fun s i => K (ix3 0 s i)) (fun s i => V (ix3 0 s i)) e :=
  (pay9_at _ _ _ _ _).trans (ctx_head 3 (by decide) (fun i => q (ix2 r i)) K V (sl 768 h1 K) (sl 768 h2 V)
    (ld_head 3 768 _ rfl K _) (ld_head 3 768 _ rfl V _) e d (by omega))

/-- Columns `512 …` of the attention rows. -/
theorem head2 (q : FVec Ideal S512x1024 .bf16) (K V : FVec Ideal S1x256x1024 .bf16) (h1) (h2) (r : Fin 512) (d : Fin 256)
    (e : Fin 1024) (he : e.val = 512 + d.val) :
    k0_pay8 (k0_pay7 q (sl 512 h1 K)) (sl 512 h2 V) (ix2 r d)
      = ctxRow (fun i => q (ix2 r i)) (fun s i => K (ix3 0 s i)) (fun s i => V (ix3 0 s i)) e :=
  (pay8_at _ _ _ _ _).trans (ctx_head 2 (by decide) (fun i => q (ix2 r i)) K V (sl 512 h1 K) (sl 512 h2 V)
    (ld_head 2 512 _ rfl K _) (ld_head 2 512 _ rfl V _) e d (by omega))

/-- Columns `256 …` of the attention rows. -/
theorem head1 (q : FVec Ideal S512x1024 .bf16) (K V : FVec Ideal S1x256x1024 .bf16) (h1) (h2) (r : Fin 512) (d : Fin 256)
    (e : Fin 1024) (he : e.val = 256 + d.val) :
    k0_pay6 q (sl 256 h1 K) (sl 256 h2 V) (ix2 r d)
      = ctxRow (fun i => q (ix2 r i)) (fun s i => K (ix3 0 s i)) (fun s i => V (ix3 0 s i)) e :=
  (pay6_at _ _ _ _ _).trans (ctx_head 1 (by decide) (fun i => q (ix2 r i)) K V (sl 256 h1 K) (sl 256 h2 V)
    (ld_head 1 256 _ rfl K _) (ld_head 1 256 _ rfl V _) e d (by omega))

/-- The first 256 columns of the attention rows. -/
theorem head0 (x0 : FVec Ideal S1x512x1024 .f32) (x3 : FVec Ideal S1x1024 .f32) (x4 : FVec Ideal S1024x1024 .bf16)
    (K V : FVec Ideal S1x256x1024 .bf16) (h1) (h2) (r : Fin 512) (d : Fin 256) (e : Fin 1024) (he : e.val = d.val) :
    k0_pay5 (F := Ideal) (k0_pay4 x0 x3 x4 (sl 0 h1 K)) (sl 0 h2 V) (ix2 r d)
      = ctxRow (fun i => k0_pay3 (F := Ideal) x0 x3 x4 (ix2 r i)) (fun s i => K (ix3 0 s i)) (fun s i => V (ix3 0 s i)) e := by
  rw [pay5_at]
  simp only [pay4_at]
  exact ctx_head 0 (by decide) (fun i => k0_pay3 (F := Ideal) x0 x3 x4 (ix2 r i)) K V (sl 0 h1 K) (sl 0 h2 V)
    (ld_head 0 0 _ rfl K _) (ld_head 0 0 _ rfl V _) e d (by omega)

/-- The result array after the run is the layer of the arguments. -/
theorem final11 (c : Dev nD) : (dats m 0 c).arrAt 11 (cfgs 0).N
    = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t _ y => ?_
  blk_simp
  rw [after0_11]; unfold Gen.outsAt0; frame_out
  obtain ⟨a, r, i, rfl⟩ : ∃ a r i, y = ix3 a r i := ⟨_, _, _, eq_ix3 y⟩
  obtain rfl : a = 0 := Subsingleton.elim _ _
  refine (tile_of (iblk m c 0 t) (iblk m c 1 t) (iblk m c 2 t) (iblk m c 3 t) (iblk m c 4 t) (iblk m c 5 t) (iblk m c 6 t)
    (iblk m c 7 t) (iblk m c 8 t) (iblk m c 9 t) (iblk m c 10 t) _ ?_ r i).trans ?_
  · intro r e
    rw [View.readCov_eq_canon']
    beta_reduce
    canon_tiles x h
    all_goals
      obtain ⟨r', d, rfl⟩ : ∃ r' d, x = ix2 r' d := ⟨_, _, eq_ix2 x⟩
      have e0 : 0 + 1 * r.val = r'.val := h0
      obtain rfl : r = r' := Fin.ext (by omega)
    · exact head3 _ _ _ _ _ _ _ _ (by have e1 : 0 + 1 * e.val = 768 + d.val := h1; omega)
    · exact head2 _ _ _ _ _ _ _ _ (by have e1 : 0 + 1 * e.val = 512 + d.val := h1; omega)
    · exact head1 _ _ _ _ _ _ _ _ (by have e1 : 0 + 1 * e.val = 256 + d.val := h1; omega)
    · exact head0 _ _ _ _ _ _ _ _ _ _ (by have e1 : 0 + 1 * e.val = d.val := h1; omega)
  · simp only [blk0, blk1, blk2, blk3, blk4, blk5, blk6, blk7, blk8, blk9, blk10]
    refine congrArg (layer _ _ _ _ _ _ _ _ _ _ _) (?_ : ix3 (bat t) (row t r) i = _)
    funext a; apply Fin.ext
    fin_cases a
    · show t.val / 4 = win0_11.index t 0 * 1 + 1 * 0
      simp [idx t]
    · show t.val % 4 * 512 + r.val = win0_11.index t 1 * 512 + 1 * r.val
      simp [idx t]
    · show i.val = win0_11.index t 2 * 1024 + 1 * i.val
      simp [idx t]

end Cert.AttnIdeal.RefValue
-- ==== Proof.AttnRef.lean ====
module

public import proofs.«01_k».proof.Proof.AttnSpec
public import proofs.«01_k».proof.Proof.Gen.AttnRefIdeal.Run

/-! What each named intermediate of the attention reference is, read at an index: the row functions
of `AttnSpec` of the argument arrays' rows. -/

@[expose] public section

set_option maxRecDepth 16384

noncomputable section

open Idealize.ShloMosaic Idealize.ShloMosaic.TcCoe Idealize.SL.Sem Idealize.ShloMosaic.StableHlo

namespace Cert.AttnRefIdeal.Stage
open Cert.AttnRefIdeal Cert.AttnRefIdeal.Gen Cert.AttnRefIdeal.Value Attn

variable {V0 : Valuation τ sig (Elt Ideal)}
variable {X : FVec Ideal S32x2048x1024 .f32} {K V : FVec Ideal S32x256x1024 .bf16}
  {Wq Wo : FVec Ideal S1x1024x1024 .f32} {g₁ g₂ : FVec Ideal S1x1024 .f32}
  {Wg Wu : FVec Ideal S1x1024x2816 .f32} {Wd : FVec Ideal S1x2816x1024 .f32} {g₃ : FVec Ideal S1024 .f32}

/-- The scaled scores. -/
theorem v23_at (h0 : V0 (Proc.devRef .tc main_arg0) = X) (h1 : V0 (Proc.devRef .tc main_arg1) = K)
    (h3 : V0 (Proc.devRef .tc main_arg3) = Wq) (h5 : V0 (Proc.devRef .tc main_arg5) = g₁)
    (b : Fin 32) (h : Fin 4) (s : Fin 2048) (t : Fin 256) :
    (res_main_v23 (F := Ideal) V0 : FVec Ideal S32x4x2048x256 .f32) (ix4 b h s t)
      = logit (fun d => mv (rms (fun i => X (ix3 b s i)) (fun i => g₁ (ix2 0 i))) (fun i j => Wq (ix3 0 i j)) (col h.val h.isLt d))
          (fun t d => K (ix3 b t (col h.val h.isLt d))) t := by
  unfold res_main_v23
  rw [h0, h1, h3, h5]
  pointwise [logit, mv, rms, col]

/-- The host's maximum along the last axis, from a start value, is the fold of `max` along it. -/
theorem rowMax_at (L : FVec Ideal S32x4x2048x256 .f32) (c : FVec Ideal S_ .f32) (b : Fin 32) (h : Fin 4) (s : Fin 2048) :
    Host.reduce FloatOps.maximumf L c reducesTo_S32x4x2048x256_S32x4x2048_d3 h_S_ (ix3 b h s)
      = Finset.univ.fold max (c (Shape.Idx.first h_S_)) (fun t => L (ix4 b h s t)) :=
  (Host.reduce_eq_fold (α := EReal) max L c reducesTo_S32x4x2048x256_S32x4x2048_d3 h_S_ (ix3 b h s)).trans
    (Shape.ReducesTo.fold_fiber_r4_a3 (n0 := 32) (n1 := 4) (n2 := 2048) (n3 := 256) reducesTo_S32x4x2048x256_S32x4x2048_d3 (ix3 b h s) max _ L)

/-- The exponentials of the scores less the row's largest score. -/
theorem v30_of (L : FVec Ideal S32x4x2048x256 .f32) (M : FVec Ideal S32x4x2048 .f32)
    (b : Fin 32) (h : Fin 4) (s : Fin 2048) (t : Fin 256) :
    (Host.exp (subf L (broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant S_ .f32 0xFF800000#32)) M)))) : FVec Ideal S32x4x2048x256 .f32) (ix4 b h s t)
      = Ideal.exp (L (ix4 b h s t) - max (Ideal.ofBits .f32 0xFF800000#32) (M (ix3 b h s))) := by
  pointwise []

/-- The exponentials of the scores less the row's largest score. -/
theorem v30_at {L : FVec Ideal S32x4x2048x256 .f32} (hL : res_main_v23 (F := Ideal) V0 = L)
    (b : Fin 32) (h : Fin 4) (s : Fin 2048) (t : Fin 256) :
    (res_main_v30 (F := Ideal) V0 : FVec Ideal S32x4x2048x256 .f32) (ix4 b h s t)
      = Ideal.exp (L (ix4 b h s t) - top (fun t => L (ix4 b h s t))) := by
  unfold res_main_v30
  rw [hL]
  refine (v30_of L _ b h s t).trans (congrArg (fun u => Ideal.exp (L (ix4 b h s t) - u)) ?_)
  refine (congrArg (max _) (rowMax_at L _ b h s)).trans ?_
  exact max_eq_right ((Finset.le_fold_max _).2 (Or.inl le_rfl))

/-- Column `e % 256` of head `e / 256` is column `e`. -/
theorem col_split (e : Fin 1024) : col (e.val / 256) (by omega) ⟨e.val % 256, by omega⟩ = e := by
  apply Fin.ext; simp only [col]; omega

/-- The attention sublayer with its residual, over the exponentials of the scores. -/
theorem v40_of {E : FVec Ideal S32x4x2048x256 .f32} (hE : res_main_v30 (F := Ideal) V0 = E)
    (h0 : V0 (Proc.devRef .tc main_arg0) = X)
    (h2 : V0 (Proc.devRef .tc main_arg2) = V) (h4 : V0 (Proc.devRef .tc main_arg4) = Wo)
    (b : Fin 32) (s : Fin 2048) (i : Fin 1024) :
    (res_main_v40 (F := Ideal) V0 : FVec Ideal S32x2048x1024 .f32) (ix3 b s i)
      = X (ix3 b s i) + ∑ k : Fin 1024, (∑ t : Fin 256, Ideal.div (E (ix4 b ⟨k.val / 256, by omega⟩ s t))
          (∑ t' : Fin 256, E (ix4 b ⟨k.val / 256, by omega⟩ s t')) * V (ix3 b t k)) * Wo (ix3 0 k i) := by
  unfold res_main_v40
  rw [h0, h2, h4, hE]
  pointwise []
  exact congrArg₂ (· + ·) rfl (Finset.sum_congr rfl fun k _ => congrArg₂ (· * ·) (Finset.sum_congr rfl fun t _ => mul_comm _ _) rfl)

/-- The attention sublayer with its residual. -/
theorem v40_at (h0 : V0 (Proc.devRef .tc main_arg0) = X) (h1 : V0 (Proc.devRef .tc main_arg1) = K)
    (h2 : V0 (Proc.devRef .tc main_arg2) = V)
    (h3 : V0 (Proc.devRef .tc main_arg3) = Wq) (h4 : V0 (Proc.devRef .tc main_arg4) = Wo) (h5 : V0 (Proc.devRef .tc main_arg5) = g₁)
    (b : Fin 32) (s : Fin 2048) (i : Fin 1024) :
    (res_main_v40 (F := Ideal) V0 : FVec Ideal S32x2048x1024 .f32) (ix3 b s i)
      = mid (fun i => X (ix3 b s i)) (fun t i => K (ix3 b t i)) (fun t i => V (ix3 b t i)) (fun i => g₁ (ix2 0 i))
          (fun i j => Wq (ix3 0 i j)) (fun i j => Wo (ix3 0 i j)) i := by
  refine (v40_of rfl h0 h2 h4 b s i).trans ?_
  unfold mid
  refine congrArg₂ (· + ·) rfl (Finset.sum_congr rfl fun k _ => ?_)
  unfold ctxRow ctx
  refine congrArg₂ (· * ·) (Finset.sum_congr rfl fun t _ => ?_) rfl
  refine congrArg₂ (· * ·) ?_ (congrArg (fun e => V (ix3 b t e)) (col_split k).symm)
  have hl : ∀ t, (res_main_v23 (F := Ideal) V0 : FVec Ideal S32x4x2048x256 .f32) (ix4 b ⟨k.val / 256, by omega⟩ s t) = _ :=
    v23_at h0 h1 h3 h5 b ⟨k.val / 256, by omega⟩ s
  have ht := funext hl
  have he : ∀ t, _ = _ := v30_at (V0 := V0) rfl b ⟨k.val / 256, by omega⟩ s
  unfold soft
  refine congrArg₂ Ideal.div ((he t).trans ?_) (Finset.sum_congr rfl fun t' _ => (he t').trans ?_)
  · rw [hl t]; exact congrArg (fun f => Ideal.exp (_ - top f)) ht
  · rw [hl t']; exact congrArg (fun f => Ideal.exp (_ - top f)) ht

/-- The second normalisation. -/
theorem v54_at {Y : FVec Ideal S32x2048x1024 .f32} (hY : res_main_v40 (F := Ideal) V0 = Y)
    (h6 : V0 (Proc.devRef .tc main_arg6) = g₂) (b : Fin 32) (s : Fin 2048) (i : Fin 1024) :
    (res_main_v54 (F := Ideal) V0 : FVec Ideal S32x2048x1024 .f32) (ix3 b s i)
      = rms (fun i => Y (ix3 b s i)) (fun i => g₂ (ix2 0 i)) i := by
  unfold res_main_v54
  rw [hY, h6]
  pointwise [rms]

/-- The row before the final normalisation. -/
theorem v63_at {Y : FVec Ideal S32x2048x1024 .f32} (hY : res_main_v40 (F := Ideal) V0 = Y)
    (h6 : V0 (Proc.devRef .tc main_arg6) = g₂) (h7 : V0 (Proc.devRef .tc main_arg7) = Wg)
    (h8 : V0 (Proc.devRef .tc main_arg8) = Wu) (h9 : V0 (Proc.devRef .tc main_arg9) = Wd)
    (b : Fin 32) (s : Fin 2048) (i : Fin 1024) :
    (res_main_v63 (F := Ideal) V0 : FVec Ideal S32x2048x1024 .f32) (ix3 b s i)
      = Y (ix3 b s i) + ffn (fun i => Y (ix3 b s i)) (fun i => g₂ (ix2 0 i)) (fun i j => Wg (ix3 0 i j))
          (fun i j => Wu (ix3 0 i j)) (fun i j => Wd (ix3 0 i j)) i := by
  have e := v54_at hY h6
  unfold res_main_v63 res_main_v56
  rw [hY, h7, h8, h9]
  generalize (res_main_v54 (F := Ideal) V0 : FVec Ideal S32x2048x1024 .f32) = Z at *
  pointwise [ffn, mv, ← silu_mul, ← e]

/-- The final normalisation. -/
theorem result_of {Z : FVec Ideal S32x2048x1024 .f32} (b : Fin 32) (s : Fin 2048) (i : Fin 1024) :
    (mulf (mulf Z (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf Z Z) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g₃)) : FVec Ideal S32x2048x1024 .f32) (ix3 b s i)
      = rms (fun i => Z (ix3 b s i)) (fun i => g₃ (ix1 i)) i := by
  pointwise [rms]

/-- The reference's result array is the layer of every token row. -/
theorem result_eq (h0 : V0 (Proc.devRef .tc main_arg0) = X) (h1 : V0 (Proc.devRef .tc main_arg1) = K)
    (h2 : V0 (Proc.devRef .tc main_arg2) = V) (h3 : V0 (Proc.devRef .tc main_arg3) = Wq)
    (h4 : V0 (Proc.devRef .tc main_arg4) = Wo) (h5 : V0 (Proc.devRef .tc main_arg5) = g₁)
    (h6 : V0 (Proc.devRef .tc main_arg6) = g₂) (h7 : V0 (Proc.devRef .tc main_arg7) = Wg)
    (h8 : V0 (Proc.devRef .tc main_arg8) = Wu) (h9 : V0 (Proc.devRef .tc main_arg9) = Wd)
    (h10 : V0 (Proc.devRef .tc main_arg10) = g₃) :
    (mulf (mulf (res_main_v63 (F := Ideal) V0) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (res_main_v63 (F := Ideal) V0) (res_main_v63 (F := Ideal) V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (V0 (Proc.devRef .tc main_arg10)))) : FVec Ideal S32x2048x1024 .f32)
      = layer X K V Wq Wo g₁ g₂ Wg Wu Wd g₃ := by
  rw [h10]
  funext j
  rw [eq_ix3 j]
  obtain ⟨Y, hY⟩ : ∃ Y : FVec Ideal S32x2048x1024 .f32, res_main_v40 (F := Ideal) V0 = Y := ⟨_, rfl⟩
  obtain ⟨Z, hZ⟩ : ∃ Z : FVec Ideal S32x2048x1024 .f32, res_main_v63 (F := Ideal) V0 = Z := ⟨_, rfl⟩
  have hy : (fun i => Y (ix3 (j 0) (j 1) i)) = _ := funext fun i => (congrFun hY _).symm.trans (v40_at h0 h1 h2 h3 h4 h5 (j 0) (j 1) i)
  have hz : (fun i => Z (ix3 (j 0) (j 1) i)) = _ := funext fun i => (congrFun hZ _).symm.trans (v63_at hY h6 h7 h8 h9 (j 0) (j 1) i)
  rw [hZ]
  refine (result_of (j 0) (j 1) (j 2)).trans ?_
  unfold layer out
  refine congrArg (fun u => rms u (fun i => g₃ (ix1 i)) (j 2)) (hz.trans (funext fun i => ?_))
  rw [hy]
  exact congrArg (· + _) (congrFun hy i)

end Cert.AttnRefIdeal.Stage
-- ==== Proof.KvValue.lean ====
module

public import proofs.«01_k».proof.Proof.Gen.KvIdeal.Value
public import proofs.«01_k».proof.Proof.Gen.KvRefIdeal.Run
public import Idealize.ShloMosaic.Lib.Pipeline.ValueKit
public import Idealize.ShloMosaic.Lib.Claim

/-! The key and value projections: each result array of the kernel is the reference's product. -/

@[expose] public section

set_option maxRecDepth 16384

noncomputable section

open Idealize.ShloMosaic Idealize.ShloMosaic.TcCoe Idealize.SL.Sem
open Idealize.ShloMosaic.Pipeline (Dat)

namespace Cert.KvIdeal.RefValue
open Cert.KvIdeal Cert.KvIdeal.Gen

variable (m : (ℓ : Loc nD τ sig) → Buf (Elt Ideal) ℓ)

/-- The reference's projection of the memory `M` by the weight `W`. -/
def proj (M : FVec Ideal S32x256x1024 .f32) (W : FVec Ideal S1x1024x1024 .f32) : FVec Ideal S32x256x1024 .bf16 :=
  truncf .bf16 (Host.dotGeneral Cert.KvRefIdeal.dot_S32x256x1024_S1024x1024_S32x256x1024_2_0_01_1_n_n none M
    (shapeCast Cert.KvRefIdeal.S1024x1024 W Cert.KvRefIdeal.Gen.shapeCasts_S1x1024x1024_S1024x1024)) Cert.KvRefIdeal.Gen.bitsLt_bf16_f32

/-- Every window's block index at grid point `t`. -/
theorem idx : ∀ t : Fin cfg0.N, win0_0.index t = ![t.val, 0, 0] ∧ win0_1.index t = ![0, 0]
    ∧ win0_2.index t = ![0, 0] ∧ win0_3.index t = ![t.val, 0, 0] ∧ win0_4.index t = ![t.val, 0, 0] :=
  (by decide +kernel : ∀ t : Fin grid0.N, _)

/-- The keys' array after the run. -/
theorem final3 (c : Dev nD) : (dats m 0 c).arrAt 3 (cfgs 0).N
    = proj (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay2, k0_pay1, proj]
  blk_point [iblk, V, idx t]

/-- The values' array after the run. -/
theorem final4 (c : Dev nD) : (dats m 0 c).arrAt 4 (cfgs 0).N
    = proj (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay3, k0_pay1, proj]
  blk_point [iblk, V, idx t]

end Cert.KvIdeal.RefValue
-- ==== Proof.MixerIdealFirst.lean ====
module

public import proofs.«01_k».proof.Proof.Gen.MixerIdeal.Launch
public import proofs.«01_k».proof.Proof.Gen.MixerIdeal.Skeleton
public import proofs.«01_k».proof.Proof.Gen.MixerIdeal.Loops
public import proofs.«01_k».proof.Proof.Gen.MixerIdeal.Points
public import proofs.«01_k».proof.Proof.Gen.MixerIdeal.Frame
public import Idealize.ShloMosaic.Lib.Tactic

/-! One run of the mixer's body at a point that begins a batch row (the carried scratch is set to zero first). -/

@[expose] public section

set_option maxRecDepth 16384

noncomputable section

namespace Cert.MixerIdeal.BodyRun

open Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point that begins a batch row (the carried scratch is set to zero first): from the input blocks, the output block and the scratch, these two at any contents,
    it runs to its end and gives back the input blocks unchanged, the output block and the scratch at some contents. -/
theorem run_first (c : Dev nD) (i : grid0.Coords) (arg2 : Memref sig .tc .vmem S1x256x1024 .f32) (harg2 : arg2.IsWhole) (arg3 : Memref sig .tc .vmem S1x256x1 .f32) (harg3 : arg3.IsWhole) (arg4 : Memref sig .tc .vmem S1x128 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x16 .bf16) (harg8 : arg8.IsWhole) (arg9 : Memref sig .tc .vmem S16x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S4x1536 .f32) (harg14 : arg14.IsWhole) (arg15 : Memref sig .tc .vmem S1x1536 .f32) (harg15 : arg15.IsWhole) (arg16 : Memref sig .tc .vmem S1x16 .f32) (harg16 : arg16.IsWhole) (arg17 : Memref sig .tc .vmem S16x1 .f32) (harg17 : arg17.IsWhole) (arg18 : Memref sig .tc .vmem S1x16 .f32) (harg18 : arg18.IsWhole) (arg19 : Memref sig .tc .vmem S16x1 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S16x1024 .bf16) (harg22 : arg22.IsWhole) (arg23 : Memref sig .tc .vmem S128x128 .bf16) (harg23 : arg23.IsWhole) (arg24 : Memref sig .tc .vmem S128x128 .bf16) (harg24 : arg24.IsWhole) (arg25 : Memref sig .tc .vmem S4x128x128 .f32) (harg25 : arg25.IsWhole) (arg26 : Memref sig .tc .vmem S128x4 .f32) (harg26 : arg26.IsWhole) (arg27 : Memref sig .tc .vmem S128x4 .f32) (harg27 : arg27.IsWhole) (arg28 : Memref sig .tc .vmem S1x4 .f32) (harg28 : arg28.IsWhole) (arg29 : Memref sig .tc .vmem S2048x1024 .bf16) (harg29 : arg29.IsWhole) (arg30 : Memref sig .tc .vmem S1x256x1024 .f32) (harg30 : arg30.IsWhole) (arg31 : Memref sig .tc .vmem S264x1536 .f32) (harg31 : arg31.IsWhole) (arg32 : Memref sig .tc .vmem S256x1024 .f32) (harg32 : arg32.IsWhole) (arg33 : Memref sig .tc .vmem S256x256 .bf16) (harg33 : arg33.IsWhole) (arg34 : Memref sig .tc .vmem S256x256 .bf16) (harg34 : arg34.IsWhole) (arg35 : Memref sig .tc .vmem S256x1024 .f32) (harg35 : arg35.IsWhole) (arg36 : Memref sig .tc .vmem S256x1024 .f32) (harg36 : arg36.IsWhole) (arg37 : Memref sig .tc .vmem S256x1024 .bf16) (harg37 : arg37.IsWhole) (arg38 : Memref sig .tc .vmem S256x1024 .bf16) (harg38 : arg38.IsWhole) (arg39 : Memref sig .tc .vmem S256x1024 .bf16) (harg39 : arg39.IsWhole) (arg40 : Memref sig .tc .vmem S256x16 .f32) (harg40 : arg40.IsWhole) (arg41 : Memref sig .tc .vmem S2x16x128 .f32) (harg41 : arg41.IsWhole) (arg42 : Memref sig .tc .vmem S256x2048 .bf16) (harg42 : arg42.IsWhole) (arg43 : Memref sig .tc .vmem S2x128x512 .f32) (harg43 : arg43.IsWhole) (arg44 : Memref sig .tc .vmem S4x256x256 .f32) (harg44 : arg44.IsWhole)
    (hc : (Scalar.cmpi .ne (Scalar.extui (Scalar.cmpi .eq (BitVec.ofNat 32 (i 1).val) 0#32)) 0#32) = 1#1)
    (x0 : Vec F S1x256x1024 .f32) (x1 : Vec F S1x256x1 .f32) (x2 : Vec F S1x128 .f32) (x3 : Vec F S1x1024 .f32) (x4 : Vec F S1024x1024 .bf16) (x5 : Vec F S1024x1536 .bf16) (x6 : Vec F S1024x16 .bf16) (x7 : Vec F S16x1024 .bf16) (x8 : Vec F S1024x1024 .bf16) (x9 : Vec F S1024x1024 .bf16) (x10 : Vec F S1024x1024 .bf16) (x11 : Vec F S1024x1024 .bf16) (x12 : Vec F S4x1536 .f32) (x13 : Vec F S1x1536 .f32) (x14 : Vec F S1x16 .f32) (x15 : Vec F S16x1 .f32) (x16 : Vec F S1x16 .f32) (x17 : Vec F S16x1 .f32) (x18 : Vec F S1x1024 .f32) (x19 : Vec F S1x1024 .f32) (x20 : Vec F S16x1024 .bf16) (x21 : Vec F S128x128 .bf16) (x22 : Vec F S128x128 .bf16) (x23 : Vec F S4x128x128 .f32) (x24 : Vec F S128x4 .f32) (x25 : Vec F S128x4 .f32) (x26 : Vec F S1x4 .f32) (x27 : Vec F S2048x1024 .bf16)
    (E : Set ℕ) (K : PUnit → sProp 𝕄) :
    iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15 ∗ owns (c : Thread nD τ) arg18 fullShare x16 ∗ owns (c : Thread nD τ) arg19 fullShare x17
            ∗ owns (c : Thread nD τ) arg20 fullShare x18 ∗ owns (c : Thread nD τ) arg21 fullShare x19 ∗ owns (c : Thread nD τ) arg22 fullShare x20
            ∗ owns (c : Thread nD τ) arg23 fullShare x21 ∗ owns (c : Thread nD τ) arg24 fullShare x22 ∗ owns (c : Thread nD τ) arg25 fullShare x23
            ∗ owns (c : Thread nD τ) arg26 fullShare x24 ∗ owns (c : Thread nD τ) arg27 fullShare x25 ∗ owns (c : Thread nD τ) arg28 fullShare x26
            ∗ owns (c : Thread nD τ) arg29 fullShare x27 ∗ (∃ d, owns (c : Thread nD τ) arg30 fullShare d) ∗ (∃ d, owns (c : Thread nD τ) arg31 fullShare d)
            ∗ (∃ d, owns (c : Thread nD τ) arg32 fullShare d) ∗ (∃ d, owns (c : Thread nD τ) arg33 fullShare d) ∗ (∃ d, owns (c : Thread nD τ) arg34 fullShare d)
            ∗ (∃ d, owns (c : Thread nD τ) arg35 fullShare d) ∗ (∃ d, owns (c : Thread nD τ) arg36 fullShare d) ∗ (∃ d, owns (c : Thread nD τ) arg37 fullShare d)
            ∗ (∃ d, owns (c : Thread nD τ) arg38 fullShare d) ∗ (∃ d, owns (c : Thread nD τ) arg39 fullShare d) ∗ (∃ d, owns (c : Thread nD τ) arg40 fullShare d)
            ∗ (∃ d, owns (c : Thread nD τ) arg41 fullShare d) ∗ (∃ d, owns (c : Thread nD τ) arg42 fullShare d) ∗ (∃ d, owns (c : Thread nD τ) arg43 fullShare d)
            ∗ (∃ d, owns (c : Thread nD τ) arg44 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15 ∗ owns (c : Thread nD τ) arg18 fullShare x16 ∗ owns (c : Thread nD τ) arg19 fullShare x17
            ∗ owns (c : Thread nD τ) arg20 fullShare x18 ∗ owns (c : Thread nD τ) arg21 fullShare x19 ∗ owns (c : Thread nD τ) arg22 fullShare x20
            ∗ owns (c : Thread nD τ) arg23 fullShare x21 ∗ owns (c : Thread nD τ) arg24 fullShare x22 ∗ owns (c : Thread nD τ) arg25 fullShare x23
            ∗ owns (c : Thread nD τ) arg26 fullShare x24 ∗ owns (c : Thread nD τ) arg27 fullShare x25 ∗ owns (c : Thread nD τ) arg28 fullShare x26
            ∗ owns (c : Thread nD τ) arg29 fullShare x27 ∗ (∃ d, owns (c : Thread nD τ) arg30 fullShare d) ∗ (∃ d, owns (c : Thread nD τ) arg31 fullShare d)
            ∗ (∃ d, owns (c : Thread nD τ) arg32 fullShare d) ∗ (∃ d, owns (c : Thread nD τ) arg33 fullShare d) ∗ (∃ d, owns (c : Thread nD τ) arg34 fullShare d)
            ∗ (∃ d, owns (c : Thread nD τ) arg35 fullShare d) ∗ (∃ d, owns (c : Thread nD τ) arg36 fullShare d) ∗ (∃ d, owns (c : Thread nD τ) arg37 fullShare d)
            ∗ (∃ d, owns (c : Thread nD τ) arg38 fullShare d) ∗ (∃ d, owns (c : Thread nD τ) arg39 fullShare d) ∗ (∃ d, owns (c : Thread nD τ) arg40 fullShare d)
            ∗ (∃ d, owns (c : Thread nD τ) arg41 fullShare d) ∗ (∃ d, owns (c : Thread nD τ) arg42 fullShare d) ∗ (∃ d, owns (c : Thread nD τ) arg43 fullShare d)
            ∗ (∃ d, owns (c : Thread nD τ) arg44 fullShare d)) -∗ K ⟨⟩))
      ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_mixer_eq_skeleton]; unfold cc0_mixer_skel
  simp only [k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr; · ipureintro; exact harg22.read_unread _
    iexact H20
  isplitl [H21]
  · iexists _; isplitr; · ipureintro; exact harg23.read_unread _
    iexact H21
  isplitl [H22]
  · iexists _; isplitr; · ipureintro; exact harg24.read_unread _
    iexact H22
  isplitl [H23]
  · iexists _; isplitr; · ipureintro; exact harg25.read_unread _
    iexact H23
  isplitl [H24]
  · iexists _; isplitr; · ipureintro; exact harg26.read_unread _
    iexact H24
  isplitl [H25]
  · iexists _; isplitr; · ipureintro; exact harg27.read_unread _
    iexact H25
  isplitl [H26]
  · iexists _; isplitr; · ipureintro; exact harg28.read_unread _
    iexact H26
  isplitl [H27]
  · iexists _; isplitr; · ipureintro; exact harg29.read_unread _
    iexact H27
  isplitl [H28]
  · iexists _, _; isplitr; swap; · iexact H28
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [HS12]
  · iexists _, _; isplitr; swap; · iexact HS12
    ipureintro; rfl
  iexists _, _; isplitr; swap; · iexact HS13
  ipureintro; rfl

end Cert.MixerIdeal.BodyRun

end
-- ==== Proof.MixerIdealLater.lean ====
module

public import proofs.«01_k».proof.Proof.Gen.MixerIdeal.Launch
public import proofs.«01_k».proof.Proof.Gen.MixerIdeal.Skeleton
public import proofs.«01_k».proof.Proof.Gen.MixerIdeal.Loops
public import proofs.«01_k».proof.Proof.Gen.MixerIdeal.Points
public import proofs.«01_k».proof.Proof.Gen.MixerIdeal.Frame
public import Idealize.ShloMosaic.Lib.Tactic

/-! One run of the mixer's body at a point that does not begin a batch row. -/

@[expose] public section

set_option maxRecDepth 16384

noncomputable section

namespace Cert.MixerIdeal.BodyRun

open Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point that does not begin a batch row: from the input blocks, the output block and the scratch, these two at any contents,
    it runs to its end and gives back the input blocks unchanged, the output block and the scratch at some contents. -/
theorem run_later (c : Dev nD) (i : grid0.Coords) (arg2 : Memref sig .tc .vmem S1x256x1024 .f32) (harg2 : arg2.IsWhole) (arg3 : Memref sig .tc .vmem S1x256x1 .f32) (harg3 : arg3.IsWhole) (arg4 : Memref sig .tc .vmem S1x128 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x16 .bf16) (harg8 : arg8.IsWhole) (arg9 : Memref sig .tc .vmem S16x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S4x1536 .f32) (harg14 : arg14.IsWhole) (arg15 : Memref sig .tc .vmem S1x1536 .f32) (harg15 : arg15.IsWhole) (arg16 : Memref sig .tc .vmem S1x16 .f32) (harg16 : arg16.IsWhole) (arg17 : Memref sig .tc .vmem S16x1 .f32) (harg17 : arg17.IsWhole) (arg18 : Memref sig .tc .vmem S1x16 .f32) (harg18 : arg18.IsWhole) (arg19 : Memref sig .tc .vmem S16x1 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S16x1024 .bf16) (harg22 : arg22.IsWhole) (arg23 : Memref sig .tc .vmem S128x128 .bf16) (harg23 : arg23.IsWhole) (arg24 : Memref sig .tc .vmem S128x128 .bf16) (harg24 : arg24.IsWhole) (arg25 : Memref sig .tc .vmem S4x128x128 .f32) (harg25 : arg25.IsWhole) (arg26 : Memref sig .tc .vmem S128x4 .f32) (harg26 : arg26.IsWhole) (arg27 : Memref sig .tc .vmem S128x4 .f32) (harg27 : arg27.IsWhole) (arg28 : Memref sig .tc .vmem S1x4 .f32) (harg28 : arg28.IsWhole) (arg29 : Memref sig .tc .vmem S2048x1024 .bf16) (harg29 : arg29.IsWhole) (arg30 : Memref sig .tc .vmem S1x256x1024 .f32) (harg30 : arg30.IsWhole) (arg31 : Memref sig .tc .vmem S264x1536 .f32) (harg31 : arg31.IsWhole) (arg32 : Memref sig .tc .vmem S256x1024 .f32) (harg32 : arg32.IsWhole) (arg33 : Memref sig .tc .vmem S256x256 .bf16) (harg33 : arg33.IsWhole) (arg34 : Memref sig .tc .vmem S256x256 .bf16) (harg34 : arg34.IsWhole) (arg35 : Memref sig .tc .vmem S256x1024 .f32) (harg35 : arg35.IsWhole) (arg36 : Memref sig .tc .vmem S256x1024 .f32) (harg36 : arg36.IsWhole) (arg37 : Memref sig .tc .vmem S256x1024 .bf16) (harg37 : arg37.IsWhole) (arg38 : Memref sig .tc .vmem S256x1024 .bf16) (harg38 : arg38.IsWhole) (arg39 : Memref sig .tc .vmem S256x1024 .bf16) (harg39 : arg39.IsWhole) (arg40 : Memref sig .tc .vmem S256x16 .f32) (harg40 : arg40.IsWhole) (arg41 : Memref sig .tc .vmem S2x16x128 .f32) (harg41 : arg41.IsWhole) (arg42 : Memref sig .tc .vmem S256x2048 .bf16) (harg42 : arg42.IsWhole) (arg43 : Memref sig .tc .vmem S2x128x512 .f32) (harg43 : arg43.IsWhole) (arg44 : Memref sig .tc .vmem S4x256x256 .f32) (harg44 : arg44.IsWhole)
    (hc : ¬ (Scalar.cmpi .ne (Scalar.extui (Scalar.cmpi .eq (BitVec.ofNat 32 (i 1).val) 0#32)) 0#32) = 1#1)
    (x0 : Vec F S1x256x1024 .f32) (x1 : Vec F S1x256x1 .f32) (x2 : Vec F S1x128 .f32) (x3 : Vec F S1x1024 .f32) (x4 : Vec F S1024x1024 .bf16) (x5 : Vec F S1024x1536 .bf16) (x6 : Vec F S1024x16 .bf16) (x7 : Vec F S16x1024 .bf16) (x8 : Vec F S1024x1024 .bf16) (x9 : Vec F S1024x1024 .bf16) (x10 : Vec F S1024x1024 .bf16) (x11 : Vec F S1024x1024 .bf16) (x12 : Vec F S4x1536 .f32) (x13 : Vec F S1x1536 .f32) (x14 : Vec F S1x16 .f32) (x15 : Vec F S16x1 .f32) (x16 : Vec F S1x16 .f32) (x17 : Vec F S16x1 .f32) (x18 : Vec F S1x1024 .f32) (x19 : Vec F S1x1024 .f32) (x20 : Vec F S16x1024 .bf16) (x21 : Vec F S128x128 .bf16) (x22 : Vec F S128x128 .bf16) (x23 : Vec F S4x128x128 .f32) (x24 : Vec F S128x4 .f32) (x25 : Vec F S128x4 .f32) (x26 : Vec F S1x4 .f32) (x27 : Vec F S2048x1024 .bf16)
    (E : Set ℕ) (K : PUnit → sProp 𝕄) :
    iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15 ∗ owns (c : Thread nD τ) arg18 fullShare x16 ∗ owns (c : Thread nD τ) arg19 fullShare x17
            ∗ owns (c : Thread nD τ) arg20 fullShare x18 ∗ owns (c : Thread nD τ) arg21 fullShare x19 ∗ owns (c : Thread nD τ) arg22 fullShare x20
            ∗ owns (c : Thread nD τ) arg23 fullShare x21 ∗ owns (c : Thread nD τ) arg24 fullShare x22 ∗ owns (c : Thread nD τ) arg25 fullShare x23
            ∗ owns (c : Thread nD τ) arg26 fullShare x24 ∗ owns (c : Thread nD τ) arg27 fullShare x25 ∗ owns (c : Thread nD τ) arg28 fullShare x26
            ∗ owns (c : Thread nD τ) arg29 fullShare x27 ∗ (∃ d, owns (c : Thread nD τ) arg30 fullShare d) ∗ (∃ d, owns (c : Thread nD τ) arg31 fullShare d)
            ∗ (∃ d, owns (c : Thread nD τ) arg32 fullShare d) ∗ (∃ d, owns (c : Thread nD τ) arg33 fullShare d) ∗ (∃ d, owns (c : Thread nD τ) arg34 fullShare d)
            ∗ (∃ d, owns (c : Thread nD τ) arg35 fullShare d) ∗ (∃ d, owns (c : Thread nD τ) arg36 fullShare d) ∗ (∃ d, owns (c : Thread nD τ) arg37 fullShare d)
            ∗ (∃ d, owns (c : Thread nD τ) arg38 fullShare d) ∗ (∃ d, owns (c : Thread nD τ) arg39 fullShare d) ∗ (∃ d, owns (c : Thread nD τ) arg40 fullShare d)
            ∗ (∃ d, owns (c : Thread nD τ) arg41 fullShare d) ∗ (∃ d, owns (c : Thread nD τ) arg42 fullShare d) ∗ (∃ d, owns (c : Thread nD τ) arg43 fullShare d)
            ∗ (∃ d, owns (c : Thread nD τ) arg44 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15 ∗ owns (c : Thread nD τ) arg18 fullShare x16 ∗ owns (c : Thread nD τ) arg19 fullShare x17
            ∗ owns (c : Thread nD τ) arg20 fullShare x18 ∗ owns (c : Thread nD τ) arg21 fullShare x19 ∗ owns (c : Thread nD τ) arg22 fullShare x20
            ∗ owns (c : Thread nD τ) arg23 fullShare x21 ∗ owns (c : Thread nD τ) arg24 fullShare x22 ∗ owns (c : Thread nD τ) arg25 fullShare x23
            ∗ owns (c : Thread nD τ) arg26 fullShare x24 ∗ owns (c : Thread nD τ) arg27 fullShare x25 ∗ owns (c : Thread nD τ) arg28 fullShare x26
            ∗ owns (c : Thread nD τ) arg29 fullShare x27 ∗ (∃ d, owns (c : Thread nD τ) arg30 fullShare d) ∗ (∃ d, owns (c : Thread nD τ) arg31 fullShare d)
            ∗ (∃ d, owns (c : Thread nD τ) arg32 fullShare d) ∗ (∃ d, owns (c : Thread nD τ) arg33 fullShare d) ∗ (∃ d, owns (c : Thread nD τ) arg34 fullShare d)
            ∗ (∃ d, owns (c : Thread nD τ) arg35 fullShare d) ∗ (∃ d, owns (c : Thread nD τ) arg36 fullShare d) ∗ (∃ d, owns (c : Thread nD τ) arg37 fullShare d)
            ∗ (∃ d, owns (c : Thread nD τ) arg38 fullShare d) ∗ (∃ d, owns (c : Thread nD τ) arg39 fullShare d) ∗ (∃ d, owns (c : Thread nD τ) arg40 fullShare d)
            ∗ (∃ d, owns (c : Thread nD τ) arg41 fullShare d) ∗ (∃ d, owns (c : Thread nD τ) arg42 fullShare d) ∗ (∃ d, owns (c : Thread nD τ) arg43 fullShare d)
            ∗ (∃ d, owns (c : Thread nD τ) arg44 fullShare d)) -∗ K ⟨⟩))
      ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_mixer_eq_skeleton]; unfold cc0_mixer_skel
  simp only [k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr; · ipureintro; exact harg22.read_unread _
    iexact H20
  isplitl [H21]
  · iexists _; isplitr; · ipureintro; exact harg23.read_unread _
    iexact H21
  isplitl [H22]
  · iexists _; isplitr; · ipureintro; exact harg24.read_unread _
    iexact H22
  isplitl [H23]
  · iexists _; isplitr; · ipureintro; exact harg25.read_unread _
    iexact H23
  isplitl [H24]
  · iexists _; isplitr; · ipureintro; exact harg26.read_unread _
    iexact H24
  isplitl [H25]
  · iexists _; isplitr; · ipureintro; exact harg27.read_unread _
    iexact H25
  isplitl [H26]
  · iexists _; isplitr; · ipureintro; exact harg28.read_unread _
    iexact H26
  isplitl [H27]
  · iexists _; isplitr; · ipureintro; exact harg29.read_unread _
    iexact H27
  isplitl [H28]
  · iexists _, _; isplitr; swap; · iexact H28
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [HS12]
  · iexists _, _; isplitr; swap; · iexact HS12
    ipureintro; rfl
  iexists _, _; isplitr; swap; · iexact HS13
  ipureintro; rfl

end Cert.MixerIdeal.BodyRun

end
-- ==== Proof.MixerIdealFrame.lean ====
module

public import proofs.«01_k».proof.Proof.MixerIdealFirst
public import proofs.«01_k».proof.Proof.MixerIdealLater

/-! The mixer runs and keeps its arguments: the body at every grid point by its two runs, then the launch. What the
call leaves in its result is not stated. -/

@[expose] public section

set_option maxRecDepth 16384

noncomputable section

namespace Cert.MixerIdeal.BodyRun

open Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region keeps between points: each scratch array at some contents, and the generator register. -/
theorem kept_eq (c : Dev nD) : (Pipeline.ΦA spec0 c : sProp 𝕄)
      = iprop(iprop((∃ d, owns (c : Thread nD τ) (Memref.whole cc0_scratch0 : Memref sig .tc .vmem S264x1536 .f32) fullShare d) ∗ (∃ d, owns (c : Thread nD τ) (Memref.whole cc0_scratch1 : Memref sig .tc .vmem S256x1024 .f32) fullShare d) ∗ (∃ d, owns (c : Thread nD τ) (Memref.whole cc0_scratch2 : Memref sig .tc .vmem S256x256 .bf16) fullShare d)
            ∗ (∃ d, owns (c : Thread nD τ) (Memref.whole cc0_scratch3 : Memref sig .tc .vmem S256x256 .bf16) fullShare d) ∗ (∃ d, owns (c : Thread nD τ) (Memref.whole cc0_scratch4 : Memref sig .tc .vmem S256x1024 .f32) fullShare d) ∗ (∃ d, owns (c : Thread nD τ) (Memref.whole cc0_scratch5 : Memref sig .tc .vmem S256x1024 .f32) fullShare d)
            ∗ (∃ d, owns (c : Thread nD τ) (Memref.whole cc0_scratch6 : Memref sig .tc .vmem S256x1024 .bf16) fullShare d) ∗ (∃ d, owns (c : Thread nD τ) (Memref.whole cc0_scratch7 : Memref sig .tc .vmem S256x1024 .bf16) fullShare d) ∗ (∃ d, owns (c : Thread nD τ) (Memref.whole cc0_scratch8 : Memref sig .tc .vmem S256x1024 .bf16) fullShare d)
            ∗ (∃ d, owns (c : Thread nD τ) (Memref.whole cc0_scratch9 : Memref sig .tc .vmem S256x16 .f32) fullShare d) ∗ (∃ d, owns (c : Thread nD τ) (Memref.whole cc0_scratch10 : Memref sig .tc .vmem S2x16x128 .f32) fullShare d) ∗ (∃ d, owns (c : Thread nD τ) (Memref.whole cc0_scratch11 : Memref sig .tc .vmem S256x2048 .bf16) fullShare d)
            ∗ (∃ d, owns (c : Thread nD τ) (Memref.whole cc0_scratch12 : Memref sig .tc .vmem S2x128x512 .f32) fullShare d) ∗ (∃ d, owns (c : Thread nD τ) (Memref.whole cc0_scratch13 : Memref sig .tc .vmem S4x256x256 .f32) fullShare d)) ∗ (∃ r, prngReg c r)) := by
  unfold Pipeline.ΦA; rw [scopedRest0_eq]; simp only [owns_whole]; try rfl

/-- The one window of which nothing is stated: the output. -/
def unstated : Fin 29 → Bool := fun w => w.val == 28

/-- The proof data: arrays as the region finds them, every input block left in place, nothing stated of the output, and
    between points the scratch at some contents. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q _ := fullShare
  owed _ := 0

/-- The data's arrays are what the region finds. -/
theorem data_A (c : Dev nD) (w : Fin cfg0.W) : (data m 0 c).A w = V m c (Pipeline.arrRef spec0 w) := by
  dsimp only [data]

/-- Input 0 is left in place. -/
theorem left0 (c : Dev nD) (t : Fin cfg0.N) : (data m 0 c).after 0 t = iblk m c 0 t := by dsimp only [data]
/-- Input 0 is found at its block. -/
theorem found0 (c : Dev nD) (t : Fin cfg0.N) (d) : (data m 0 c).before 0 t d = iblk m c 0 t :=
  before0_0_of m (data m 0 c) (data_A m c 0) (left0 m c) t d
/-- Input 1 is left in place. -/
theorem left1 (c : Dev nD) (t : Fin cfg0.N) : (data m 0 c).after 1 t = iblk m c 1 t := by dsimp only [data]
/-- Input 1 is found at its block. -/
theorem found1 (c : Dev nD) (t : Fin cfg0.N) (d) : (data m 0 c).before 1 t d = iblk m c 1 t :=
  before0_1_of m (data m 0 c) (data_A m c 1) (left1 m c) t d
/-- Input 2 is left in place. -/
theorem left2 (c : Dev nD) (t : Fin cfg0.N) : (data m 0 c).after 2 t = iblk m c 2 t := by dsimp only [data]
/-- Input 2 is found at its block. -/
theorem found2 (c : Dev nD) (t : Fin cfg0.N) (d) : (data m 0 c).before 2 t d = iblk m c 2 t :=
  before0_2_of m (data m 0 c) (data_A m c 2) (left2 m c) t d
/-- Input 3 is left in place. -/
theorem left3 (c : Dev nD) (t : Fin cfg0.N) : (data m 0 c).after 3 t = iblk m c 3 t := by dsimp only [data]
/-- Input 3 is found at its block. -/
theorem found3 (c : Dev nD) (t : Fin cfg0.N) (d) : (data m 0 c).before 3 t d = iblk m c 3 t :=
  before0_3_of m (data m 0 c) (data_A m c 3) (left3 m c) t d
/-- Input 4 is left in place. -/
theorem left4 (c : Dev nD) (t : Fin cfg0.N) : (data m 0 c).after 4 t = iblk m c 4 t := by dsimp only [data]
/-- Input 4 is found at its block. -/
theorem found4 (c : Dev nD) (t : Fin cfg0.N) (d) : (data m 0 c).before 4 t d = iblk m c 4 t :=
  before0_4_of m (data m 0 c) (data_A m c 4) (left4 m c) t d
/-- Input 5 is left in place. -/
theorem left5 (c : Dev nD) (t : Fin cfg0.N) : (data m 0 c).after 5 t = iblk m c 5 t := by dsimp only [data]
/-- Input 5 is found at its block. -/
theorem found5 (c : Dev nD) (t : Fin cfg0.N) (d) : (data m 0 c).before 5 t d = iblk m c 5 t :=
  before0_5_of m (data m 0 c) (data_A m c 5) (left5 m c) t d
/-- Input 6 is left in place. -/
theorem left6 (c : Dev nD) (t : Fin cfg0.N) : (data m 0 c).after 6 t = iblk m c 6 t := by dsimp only [data]
/-- Input 6 is found at its block. -/
theorem found6 (c : Dev nD) (t : Fin cfg0.N) (d) : (data m 0 c).before 6 t d = iblk m c 6 t :=
  before0_6_of m (data m 0 c) (data_A m c 6) (left6 m c) t d
/-- Input 7 is left in place. -/
theorem left7 (c : Dev nD) (t : Fin cfg0.N) : (data m 0 c).after 7 t = iblk m c 7 t := by dsimp only [data]
/-- Input 7 is found at its block. -/
theorem found7 (c : Dev nD) (t : Fin cfg0.N) (d) : (data m 0 c).before 7 t d = iblk m c 7 t :=
  before0_7_of m (data m 0 c) (data_A m c 7) (left7 m c) t d
/-- Input 8 is left in place. -/
theorem left8 (c : Dev nD) (t : Fin cfg0.N) : (data m 0 c).after 8 t = iblk m c 8 t := by dsimp only [data]
/-- Input 8 is found at its block. -/
theorem found8 (c : Dev nD) (t : Fin cfg0.N) (d) : (data m 0 c).before 8 t d = iblk m c 8 t :=
  before0_8_of m (data m 0 c) (data_A m c 8) (left8 m c) t d
/-- Input 9 is left in place. -/
theorem left9 (c : Dev nD) (t : Fin cfg0.N) : (data m 0 c).after 9 t = iblk m c 9 t := by dsimp only [data]
/-- Input 9 is found at its block. -/
theorem found9 (c : Dev nD) (t : Fin cfg0.N) (d) : (data m 0 c).before 9 t d = iblk m c 9 t :=
  before0_9_of m (data m 0 c) (data_A m c 9) (left9 m c) t d
/-- Input 10 is left in place. -/
theorem left10 (c : Dev nD) (t : Fin cfg0.N) : (data m 0 c).after 10 t = iblk m c 10 t := by dsimp only [data]
/-- Input 10 is found at its block. -/
theorem found10 (c : Dev nD) (t : Fin cfg0.N) (d) : (data m 0 c).before 10 t d = iblk m c 10 t :=
  before0_10_of m (data m 0 c) (data_A m c 10) (left10 m c) t d
/-- Input 11 is left in place. -/
theorem left11 (c : Dev nD) (t : Fin cfg0.N) : (data m 0 c).after 11 t = iblk m c 11 t := by dsimp only [data]
/-- Input 11 is found at its block. -/
theorem found11 (c : Dev nD) (t : Fin cfg0.N) (d) : (data m 0 c).before 11 t d = iblk m c 11 t :=
  before0_11_of m (data m 0 c) (data_A m c 11) (left11 m c) t d
/-- Input 12 is left in place. -/
theorem left12 (c : Dev nD) (t : Fin cfg0.N) : (data m 0 c).after 12 t = iblk m c 12 t := by dsimp only [data]
/-- Input 12 is found at its block. -/
theorem found12 (c : Dev nD) (t : Fin cfg0.N) (d) : (data m 0 c).before 12 t d = iblk m c 12 t :=
  before0_12_of m (data m 0 c) (data_A m c 12) (left12 m c) t d
/-- Input 13 is left in place. -/
theorem left13 (c : Dev nD) (t : Fin cfg0.N) : (data m 0 c).after 13 t = iblk m c 13 t := by dsimp only [data]
/-- Input 13 is found at its block. -/
theorem found13 (c : Dev nD) (t : Fin cfg0.N) (d) : (data m 0 c).before 13 t d = iblk m c 13 t :=
  before0_13_of m (data m 0 c) (data_A m c 13) (left13 m c) t d
/-- Input 14 is left in place. -/
theorem left14 (c : Dev nD) (t : Fin cfg0.N) : (data m 0 c).after 14 t = iblk m c 14 t := by dsimp only [data]
/-- Input 14 is found at its block. -/
theorem found14 (c : Dev nD) (t : Fin cfg0.N) (d) : (data m 0 c).before 14 t d = iblk m c 14 t :=
  before0_14_of m (data m 0 c) (data_A m c 14) (left14 m c) t d
/-- Input 15 is left in place. -/
theorem left15 (c : Dev nD) (t : Fin cfg0.N) : (data m 0 c).after 15 t = iblk m c 15 t := by dsimp only [data]
/-- Input 15 is found at its block. -/
theorem found15 (c : Dev nD) (t : Fin cfg0.N) (d) : (data m 0 c).before 15 t d = iblk m c 15 t :=
  before0_15_of m (data m 0 c) (data_A m c 15) (left15 m c) t d
/-- Input 16 is left in place. -/
theorem left16 (c : Dev nD) (t : Fin cfg0.N) : (data m 0 c).after 16 t = iblk m c 16 t := by dsimp only [data]
/-- Input 16 is found at its block. -/
theorem found16 (c : Dev nD) (t : Fin cfg0.N) (d) : (data m 0 c).before 16 t d = iblk m c 16 t :=
  before0_16_of m (data m 0 c) (data_A m c 16) (left16 m c) t d
/-- Input 17 is left in place. -/
theorem left17 (c : Dev nD) (t : Fin cfg0.N) : (data m 0 c).after 17 t = iblk m c 17 t := by dsimp only [data]
/-- Input 17 is found at its block. -/
theorem found17 (c : Dev nD) (t : Fin cfg0.N) (d) : (data m 0 c).before 17 t d = iblk m c 17 t :=
  before0_17_of m (data m 0 c) (data_A m c 17) (left17 m c) t d
/-- Input 18 is left in place. -/
theorem left18 (c : Dev nD) (t : Fin cfg0.N) : (data m 0 c).after 18 t = iblk m c 18 t := by dsimp only [data]
/-- Input 18 is found at its block. -/
theorem found18 (c : Dev nD) (t : Fin cfg0.N) (d) : (data m 0 c).before 18 t d = iblk m c 18 t :=
  before0_18_of m (data m 0 c) (data_A m c 18) (left18 m c) t d
/-- Input 19 is left in place. -/
theorem left19 (c : Dev nD) (t : Fin cfg0.N) : (data m 0 c).after 19 t = iblk m c 19 t := by dsimp only [data]
/-- Input 19 is found at its block. -/
theorem found19 (c : Dev nD) (t : Fin cfg0.N) (d) : (data m 0 c).before 19 t d = iblk m c 19 t :=
  before0_19_of m (data m 0 c) (data_A m c 19) (left19 m c) t d
/-- Input 20 is left in place. -/
theorem left20 (c : Dev nD) (t : Fin cfg0.N) : (data m 0 c).after 20 t = iblk m c 20 t := by dsimp only [data]
/-- Input 20 is found at its block. -/
theorem found20 (c : Dev nD) (t : Fin cfg0.N) (d) : (data m 0 c).before 20 t d = iblk m c 20 t :=
  before0_20_of m (data m 0 c) (data_A m c 20) (left20 m c) t d
/-- Input 21 is left in place. -/
theorem left21 (c : Dev nD) (t : Fin cfg0.N) : (data m 0 c).after 21 t = iblk m c 21 t := by dsimp only [data]
/-- Input 21 is found at its block. -/
theorem found21 (c : Dev nD) (t : Fin cfg0.N) (d) : (data m 0 c).before 21 t d = iblk m c 21 t :=
  before0_21_of m (data m 0 c) (data_A m c 21) (left21 m c) t d
/-- Input 22 is left in place. -/
theorem left22 (c : Dev nD) (t : Fin cfg0.N) : (data m 0 c).after 22 t = iblk m c 22 t := by dsimp only [data]
/-- Input 22 is found at its block. -/
theorem found22 (c : Dev nD) (t : Fin cfg0.N) (d) : (data m 0 c).before 22 t d = iblk m c 22 t :=
  before0_22_of m (data m 0 c) (data_A m c 22) (left22 m c) t d
/-- Input 23 is left in place. -/
theorem left23 (c : Dev nD) (t : Fin cfg0.N) : (data m 0 c).after 23 t = iblk m c 23 t := by dsimp only [data]
/-- Input 23 is found at its block. -/
theorem found23 (c : Dev nD) (t : Fin cfg0.N) (d) : (data m 0 c).before 23 t d = iblk m c 23 t :=
  before0_23_of m (data m 0 c) (data_A m c 23) (left23 m c) t d
/-- Input 24 is left in place. -/
theorem left24 (c : Dev nD) (t : Fin cfg0.N) : (data m 0 c).after 24 t = iblk m c 24 t := by dsimp only [data]
/-- Input 24 is found at its block. -/
theorem found24 (c : Dev nD) (t : Fin cfg0.N) (d) : (data m 0 c).before 24 t d = iblk m c 24 t :=
  before0_24_of m (data m 0 c) (data_A m c 24) (left24 m c) t d
/-- Input 25 is left in place. -/
theorem left25 (c : Dev nD) (t : Fin cfg0.N) : (data m 0 c).after 25 t = iblk m c 25 t := by dsimp only [data]
/-- Input 25 is found at its block. -/
theorem found25 (c : Dev nD) (t : Fin cfg0.N) (d) : (data m 0 c).before 25 t d = iblk m c 25 t :=
  before0_25_of m (data m 0 c) (data_A m c 25) (left25 m c) t d
/-- Input 26 is left in place. -/
theorem left26 (c : Dev nD) (t : Fin cfg0.N) : (data m 0 c).after 26 t = iblk m c 26 t := by dsimp only [data]
/-- Input 26 is found at its block. -/
theorem found26 (c : Dev nD) (t : Fin cfg0.N) (d) : (data m 0 c).before 26 t d = iblk m c 26 t :=
  before0_26_of m (data m 0 c) (data_A m c 26) (left26 m c) t d
/-- Input 27 is left in place. -/
theorem left27 (c : Dev nD) (t : Fin cfg0.N) : (data m 0 c).after 27 t = iblk m c 27 t := by dsimp only [data]
/-- Input 27 is found at its block. -/
theorem found27 (c : Dev nD) (t : Fin cfg0.N) (d) : (data m 0 c).before 27 t d = iblk m c 27 t :=
  before0_27_of m (data m 0 c) (data_A m c 27) (left27 m c) t d

/-- What the body is given at a grid point. -/
def given (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
            ∗ (∃ d, owns (c : Thread nD τ) (win0_1.stage (cfg0.slots t 1)) fullShare ((data m 0 c).before 1 t d))
            ∗ (∃ d, owns (c : Thread nD τ) (win0_2.stage (cfg0.slots t 2)) fullShare ((data m 0 c).before 2 t d))
            ∗ (∃ d, owns (c : Thread nD τ) (win0_3.stage (cfg0.slots t 3)) fullShare ((data m 0 c).before 3 t d))
            ∗ (∃ d, owns (c : Thread nD τ) (win0_4.stage (cfg0.slots t 4)) fullShare ((data m 0 c).before 4 t d))
            ∗ (∃ d, owns (c : Thread nD τ) (win0_5.stage (cfg0.slots t 5)) fullShare ((data m 0 c).before 5 t d))
            ∗ (∃ d, owns (c : Thread nD τ) (win0_6.stage (cfg0.slots t 6)) fullShare ((data m 0 c).before 6 t d))
            ∗ (∃ d, owns (c : Thread nD τ) (win0_7.stage (cfg0.slots t 7)) fullShare ((data m 0 c).before 7 t d))
            ∗ (∃ d, owns (c : Thread nD τ) (win0_8.stage (cfg0.slots t 8)) fullShare ((data m 0 c).before 8 t d))
            ∗ (∃ d, owns (c : Thread nD τ) (win0_9.stage (cfg0.slots t 9)) fullShare ((data m 0 c).before 9 t d))
            ∗ (∃ d, owns (c : Thread nD τ) (win0_10.stage (cfg0.slots t 10)) fullShare ((data m 0 c).before 10 t d))
            ∗ (∃ d, owns (c : Thread nD τ) (win0_11.stage (cfg0.slots t 11)) fullShare ((data m 0 c).before 11 t d))
            ∗ (∃ d, owns (c : Thread nD τ) (win0_12.stage (cfg0.slots t 12)) fullShare ((data m 0 c).before 12 t d))
            ∗ (∃ d, owns (c : Thread nD τ) (win0_13.stage (cfg0.slots t 13)) fullShare ((data m 0 c).before 13 t d))
            ∗ (∃ d, owns (c : Thread nD τ) (win0_14.stage (cfg0.slots t 14)) fullShare ((data m 0 c).before 14 t d))
            ∗ (∃ d, owns (c : Thread nD τ) (win0_15.stage (cfg0.slots t 15)) fullShare ((data m 0 c).before 15 t d))
            ∗ (∃ d, owns (c : Thread nD τ) (win0_16.stage (cfg0.slots t 16)) fullShare ((data m 0 c).before 16 t d))
            ∗ (∃ d, owns (c : Thread nD τ) (win0_17.stage (cfg0.slots t 17)) fullShare ((data m 0 c).before 17 t d))
            ∗ (∃ d, owns (c : Thread nD τ) (win0_18.stage (cfg0.slots t 18)) fullShare ((data m 0 c).before 18 t d))
            ∗ (∃ d, owns (c : Thread nD τ) (win0_19.stage (cfg0.slots t 19)) fullShare ((data m 0 c).before 19 t d))
            ∗ (∃ d, owns (c : Thread nD τ) (win0_20.stage (cfg0.slots t 20)) fullShare ((data m 0 c).before 20 t d))
            ∗ (∃ d, owns (c : Thread nD τ) (win0_21.stage (cfg0.slots t 21)) fullShare ((data m 0 c).before 21 t d))
            ∗ (∃ d, owns (c : Thread nD τ) (win0_22.stage (cfg0.slots t 22)) fullShare ((data m 0 c).before 22 t d))
            ∗ (∃ d, owns (c : Thread nD τ) (win0_23.stage (cfg0.slots t 23)) fullShare ((data m 0 c).before 23 t d))
            ∗ (∃ d, owns (c : Thread nD τ) (win0_24.stage (cfg0.slots t 24)) fullShare ((data m 0 c).before 24 t d))
            ∗ (∃ d, owns (c : Thread nD τ) (win0_25.stage (cfg0.slots t 25)) fullShare ((data m 0 c).before 25 t d))
            ∗ (∃ d, owns (c : Thread nD τ) (win0_26.stage (cfg0.slots t 26)) fullShare ((data m 0 c).before 26 t d))
            ∗ (∃ d, owns (c : Thread nD τ) (win0_27.stage (cfg0.slots t 27)) fullShare ((data m 0 c).before 27 t d))
            ∗ (∃ d, owns (c : Thread nD τ) (win0_28.stage (cfg0.slots t 28)) fullShare d))

/-- What the body gives back at a grid point. -/
def returned (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
            ∗ owns (c : Thread nD τ) (win0_1.stage (cfg0.slots t 1)) fullShare ((data m 0 c).after 1 t)
            ∗ owns (c : Thread nD τ) (win0_2.stage (cfg0.slots t 2)) fullShare ((data m 0 c).after 2 t)
            ∗ owns (c : Thread nD τ) (win0_3.stage (cfg0.slots t 3)) fullShare ((data m 0 c).after 3 t)
            ∗ owns (c : Thread nD τ) (win0_4.stage (cfg0.slots t 4)) fullShare ((data m 0 c).after 4 t)
            ∗ owns (c : Thread nD τ) (win0_5.stage (cfg0.slots t 5)) fullShare ((data m 0 c).after 5 t)
            ∗ owns (c : Thread nD τ) (win0_6.stage (cfg0.slots t 6)) fullShare ((data m 0 c).after 6 t)
            ∗ owns (c : Thread nD τ) (win0_7.stage (cfg0.slots t 7)) fullShare ((data m 0 c).after 7 t)
            ∗ owns (c : Thread nD τ) (win0_8.stage (cfg0.slots t 8)) fullShare ((data m 0 c).after 8 t)
            ∗ owns (c : Thread nD τ) (win0_9.stage (cfg0.slots t 9)) fullShare ((data m 0 c).after 9 t)
            ∗ owns (c : Thread nD τ) (win0_10.stage (cfg0.slots t 10)) fullShare ((data m 0 c).after 10 t)
            ∗ owns (c : Thread nD τ) (win0_11.stage (cfg0.slots t 11)) fullShare ((data m 0 c).after 11 t)
            ∗ owns (c : Thread nD τ) (win0_12.stage (cfg0.slots t 12)) fullShare ((data m 0 c).after 12 t)
            ∗ owns (c : Thread nD τ) (win0_13.stage (cfg0.slots t 13)) fullShare ((data m 0 c).after 13 t)
            ∗ owns (c : Thread nD τ) (win0_14.stage (cfg0.slots t 14)) fullShare ((data m 0 c).after 14 t)
            ∗ owns (c : Thread nD τ) (win0_15.stage (cfg0.slots t 15)) fullShare ((data m 0 c).after 15 t)
            ∗ owns (c : Thread nD τ) (win0_16.stage (cfg0.slots t 16)) fullShare ((data m 0 c).after 16 t)
            ∗ owns (c : Thread nD τ) (win0_17.stage (cfg0.slots t 17)) fullShare ((data m 0 c).after 17 t)
            ∗ owns (c : Thread nD τ) (win0_18.stage (cfg0.slots t 18)) fullShare ((data m 0 c).after 18 t)
            ∗ owns (c : Thread nD τ) (win0_19.stage (cfg0.slots t 19)) fullShare ((data m 0 c).after 19 t)
            ∗ owns (c : Thread nD τ) (win0_20.stage (cfg0.slots t 20)) fullShare ((data m 0 c).after 20 t)
            ∗ owns (c : Thread nD τ) (win0_21.stage (cfg0.slots t 21)) fullShare ((data m 0 c).after 21 t)
            ∗ owns (c : Thread nD τ) (win0_22.stage (cfg0.slots t 22)) fullShare ((data m 0 c).after 22 t)
            ∗ owns (c : Thread nD τ) (win0_23.stage (cfg0.slots t 23)) fullShare ((data m 0 c).after 23 t)
            ∗ owns (c : Thread nD τ) (win0_24.stage (cfg0.slots t 24)) fullShare ((data m 0 c).after 24 t)
            ∗ owns (c : Thread nD τ) (win0_25.stage (cfg0.slots t 25)) fullShare ((data m 0 c).after 25 t)
            ∗ owns (c : Thread nD τ) (win0_26.stage (cfg0.slots t 26)) fullShare ((data m 0 c).after 26 t)
            ∗ owns (c : Thread nD τ) (win0_27.stage (cfg0.slots t 27)) fullShare ((data m 0 c).after 27 t)
            ∗ (∃ d, owns (c : Thread nD τ) (win0_28.stage (cfg0.slots t 28)) fullShare d))

set_option maxHeartbeats 32000000 in
/-- The body at any grid point, by the run of the kind of point it is. -/
theorem body_at (c : Dev nD) (t : Fin cfg0.N) :
    given m c t ⊢ wp frame (wpE (defs₀ (F := F)) Variants.none c none) Set.univ (bodyAt0 t) (fun _ => returned m c t) := by
  unfold given returned bodyAt0
  simp only [found0, found1, found2, found3, found4, found5, found6, found7, found8, found9, found10, found11, found12, found13, found14, found15, found16, found17, found18, found19, found20, found21, found22, found23, found24, found25, found26, found27]
  rw [show (data m 0 c).owesAt () t.succ = (data m 0 c).owesAt () t.castSucc from rfl,
    left0, left1, left2, left3, left4, left5, left6, left7, left8, left9, left10, left11, left12, left13, left14, left15, left16, left17, left18, left19, left20, left21, left22, left23, left24, left25, left26, left27,
    show (data m 0 c).Φ t.succ = Pipeline.ΦA spec0 c from rfl,
    show (data m 0 c).Φ t.castSucc = Pipeline.ΦA spec0 c from rfl, kept_eq]
  by_cases hc : (Scalar.cmpi .ne (Scalar.extui (Scalar.cmpi .eq (BitVec.ofNat 32 (grid0.coords t 1).val) 0#32)) 0#32) = 1#1
  · iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, H28⟩
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, HS9, HS10, HS11, HS12, HS13⟩
    isplitl [HS0 HS1 HS2 HS3 HS4 HS5 HS6 HS7 HS8 HS9 HS10 HS11 HS12 HS13 Hg]
    · isplitl [HS0 HS1 HS2 HS3 HS4 HS5 HS6 HS7 HS8 HS9 HS10 HS11 HS12 HS13]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        iexact HS13
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  · iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, H28⟩
    iapply (run_later c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, HS9, HS10, HS11, HS12, HS13⟩
    isplitl [HS0 HS1 HS2 HS3 HS4 HS5 HS6 HS7 HS8 HS9 HS10 HS11 HS12 HS13 Hg]
    · isplitl [HS0 HS1 HS2 HS3 HS4 HS5 HS6 HS7 HS8 HS9 HS10 HS11 HS12 HS13]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        iexact HS13
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28

/-- The body obligation of the pipeline, at every grid point. -/
theorem obligation (c : Dev nD) : BodyObligation (data (F := F) m 0 c) (defs₀ (F := F)) Variants.none () Set.univ unstated := fun t => by
  rw [bigSep_W0, bigSep_W0, show defs₀ (F := F) .tc cfg0.body (cfg0.bodyArgs t (cfg0.slots t)) = bodyAt0 t from by
    unfold defs₀; rw [Defs.onTc_tc]]
  exact triple_restated (body_at m c t) rfl .rfl fun _ => .rfl

set_option backward.isDefEq.respectTransparency.types false in
/-- The call runs to its end: arrays no window writes are as the region found them, and every counter is zero. -/
theorem launched : θ_run defs (onTc (τ := τ) (main (F := F))) (s₀ m ρ)
    (fun r => (Pipeline.RDat.FramePost (cfgs 0) (fun c => (data m 0 c).toRForget unstated) (V m)) r ∧ r.2.sem = fun _ => 0) :=
  Pipeline.θ_run_frame_track_forget (Q' := _) cfgs (data m) (0 : Fin 1) launch0 defs₀ Variants.none unstated m ρ main
    (hbody := fun c => (obligation m c).loose) (hshare := fun c => (data m 0 c).share_full fun _ => rfl)
    (howed := fun _ _ => rfl) (V := V m) (hmain := hmain m Variants.none) (hA := data_A m)
    (hin := fun c => Idealize.SL.BI.Entails.refl _) (hout := fun c => Idealize.SL.BI.Entails.refl _)

set_option maxHeartbeats 2000000 in
/-- The call runs, keeps every argument array, and leaves every counter zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(Pipeline.RDat.FramePost.arr_in h.1 c 0 rfl).trans ((data_A m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (launched m ρ)

end Cert.MixerIdeal.BodyRun

end
-- ==== Proof.Claims.lean ====
module

public import proofs.«01_k».proof.Defs
public import proofs.«01_k».proof.Proof.Gen.Attn.Frame
public import proofs.«01_k».proof.Proof.Gen.Kv.Frame
public import proofs.«01_k».proof.Proof.AttnValue
public import proofs.«01_k».proof.Proof.AttnRef
public import proofs.«01_k».proof.Proof.KvValue
public import proofs.«01_k».proof.Proof.MixerFrame
public import proofs.«01_k».proof.Proof.MixerIdealFrame
public import Idealize.ShloMosaic.Lib.Quiescent

/-! The claims of the three calls: each runs and keeps its arguments; the attention and projection calls compute their
references. -/

@[expose] public section

set_option maxRecDepth 16384

noncomputable section

open Idealize.ShloMosaic Idealize.ShloMosaic.TcCoe Idealize.SL.Sem

namespace Cert.Proof.Claims

/-- The attention call as printed runs and keeps its arguments. -/
theorem frame_attn : Cert.quiescent_Attn := fun m ρ _ => Cert.Attn.Gen.frame m ρ
/-- The idealised attention call runs and keeps its arguments. -/
theorem frame_attnI : Cert.quiescent_AttnIdeal := fun m ρ _ => Cert.AttnIdeal.Gen.frame m ρ
/-- The attention reference runs and keeps its arguments. -/
theorem frame_attnR : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- The projection call as printed runs and keeps its arguments. -/
theorem frame_kv : Cert.quiescent_Kv := fun m ρ _ => Cert.Kv.Gen.frame m ρ
/-- The idealised projection call runs and keeps its arguments. -/
theorem frame_kvI : Cert.quiescent_KvIdeal := fun m ρ _ => Cert.KvIdeal.Gen.frame m ρ
/-- The projection reference runs and keeps its arguments. -/
theorem frame_kvR : Cert.quiescent_KvRefIdeal := fun m ρ _ =>
  (θ_run Cert.KvRefIdeal.defs _ _).mono (fun r h => ⟨fun c => (h c).2.2, sem_eq_zero_of_no_sems (by decide) r.2⟩)
    (Cert.KvRefIdeal.Value.run (F := Ideal) m ρ)

/-- The mixer call as printed runs and keeps its arguments. -/
theorem frame_mixer : Cert.quiescent_Mixer := fun m ρ _ => Cert.Mixer.BodyRun.runs m ρ
/-- The idealised mixer call runs and keeps its arguments. -/
theorem frame_mixerI : Cert.quiescent_MixerIdeal := fun m ρ _ => Cert.MixerIdeal.BodyRun.runs m ρ

/-- The attention call computes its reference: both results are the layer of the arguments. -/
theorem algebraic_attn : Cert.algebraic_AttnIdeal_AttnRefIdeal := by
  intro m ρ m' ρ' _ hagree
  refine ⟨_, (θ_run Cert.AttnIdeal.defs _ _).mono
    (fun r h c => ⟨(h c).1.trans (Cert.AttnIdeal.RefValue.final11 m c), (h c).2⟩)
    (Cert.AttnIdeal.Value.run_blocks (F := Ideal) m ρ), ?_⟩
  refine (θ_run Cert.AttnRefIdeal.defs _ _).mono (fun r h c => ⟨(h c).1.trans ?_, (h c).2⟩)
    (Cert.AttnRefIdeal.Value.run (F := Ideal) m' ρ')
  obtain ⟨h0, h1, h2, h3, h4, h5, h6, h7, h8, h9, h10⟩ := hagree c
  exact Cert.AttnRefIdeal.Stage.result_eq h0 h1 h2 h3 h4 h5 h6 h7 h8 h9 h10

/-- The projection call computes its reference: each result is the projection of the memory by its weight. -/
theorem algebraic_kv : Cert.algebraic_KvIdeal_KvRefIdeal := by
  intro m ρ m' ρ' _ hagree
  refine ⟨_, _, (θ_run Cert.KvIdeal.defs _ _).mono
    (fun r h c => ⟨(h c).1.trans (Cert.KvIdeal.RefValue.final3 m c), (h c).2.1.trans (Cert.KvIdeal.RefValue.final4 m c), (h c).2.2⟩)
    (Cert.KvIdeal.Value.run_blocks (F := Ideal) m ρ), ?_⟩
  refine (θ_run Cert.KvRefIdeal.defs _ _).mono (fun r h c => ⟨(h c).1.trans ?_, (h c).2.1.trans ?_, (h c).2.2⟩)
    (Cert.KvRefIdeal.Value.run (F := Ideal) m' ρ')
  · rw [(hagree c).1, (hagree c).2.1]; rfl
  · rw [(hagree c).1, (hagree c).2.2]; rfl

end Cert.Proof.Claims
-- ==== Proof.lean ====
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.Kv
public import proofs.«01_k».proof.Proof.Gen.KvIdeal
public import proofs.«01_k».proof.Proof.Gen.KvRefIdeal
public import proofs.«01_k».proof.Proof.Gen.Mixer
public import proofs.«01_k».proof.Proof.Gen.MixerIdeal
public import proofs.«01_k».proof.Proof.Claims
public import Idealize.ShloMosaic.Adequacy
public import Idealize.ShloMosaic.Init

/-! Every claim of the certificate, together. -/

@[expose] public section

noncomputable section

namespace Cert.Proof

open Idealize.ShloMosaic Idealize.SL.Sem

/-- The certificate's claims hold. -/
theorem claim : Cert.Claim :=
  ⟨Cert.Attn.Gen.facts, Cert.AttnIdeal.Gen.facts, Cert.AttnRefIdeal.Gen.facts, Cert.Kv.Gen.facts, Cert.KvIdeal.Gen.facts,
    Cert.KvRefIdeal.Gen.facts, Cert.Mixer.Gen.facts, Cert.MixerIdeal.Gen.facts, Claims.frame_attn, Claims.frame_attnI, Claims.frame_attnR, Claims.frame_kv, Claims.frame_kvI,
    Claims.frame_kvR, Claims.frame_mixer, Claims.frame_mixerI, trivial, Claims.algebraic_attn, trivial, Claims.algebraic_kv, trivial⟩

end Cert.Proof

end
